-- ==== Defs.lean ====
def Pre_Kernel (m : (ℓ : Loc Cert.Kernel.nD Cert.Kernel.τ Cert.Kernel.sig) → Buf (Elt Bits) ℓ) : Prop :=
  True

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal) (hPre_finite_inputs := hPre_finite_inputs)
    ∧ quiescent_KernelIdeal_pre_none (hKernelIdeal := hKernelIdeal)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S1024x64 : Shape := ⟨2, ![1024, 64]⟩
abbrev S_ : Shape := ⟨0, ![]⟩

class Facts : Prop where
  bcast_S_S16384x64 : S_.BroadcastsInDim S16384x64 (![] : Fin 0 → Fin S16384x64.rank)
  bcast_S_S1024x64 : S_.BroadcastsInDim S1024x64 (![] : Fin 0 → Fin S1024x64.rank)

variable [Facts]

def fn {F : FTy → Type} [FloatOps F] (main_arg0 : FVec F S16384x64 .f32) (main_arg1 : FVec F S1024x64 .f32) : IVec S16384x64 1 × IVec S1024x64 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_v3 : FVec F S1024x64 .f32 := Host.absf main_arg1
  let main_cst_0 : FVec F S_ .f32 := constant S_ .f32 0x7F800000#32
  let main_v4 : FVec F S1024x64 .f32 := broadcastInDim S1024x64 ![] bcast_S_S1024x64 main_cst_0
  let main_v5 : IVec S1024x64 1 := cmpf .olt main_v3 main_v4
  (main_v2, main_v5)
-- ==== Kernel.lean ====
abbrev S16384x64 : Shape := ⟨2, ![16384, 64]⟩
abbrev S1024x64 : Shape := ⟨2, ![1024, 64]⟩
abbrev S1x1 : Shape := ⟨2, ![1, 1]⟩
abbrev S16384x1024 : Shape := ⟨2, ![16384, 1024]⟩
abbrev S_ : Shape := ⟨0, ![]⟩
abbrev S512x64 : Shape := ⟨2, ![512, 64]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x512x64 : Shape := ⟨3, ![1, 512, 64]⟩
abbrev S1x1x1 : Shape := ⟨3, ![1, 1, 1]⟩
abbrev S1x1x1024 : Shape := ⟨3, ![1, 1, 1024]⟩

abbrev nBuf : Space → Nat
  | .hbm => 8
  | .vmem => 8
  | .smem => 3
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S1x1, .f32⟩
  | .hbm, ⟨3, _⟩ => ⟨S16384x64, .f32⟩
  | .hbm, ⟨4, _⟩ => ⟨S1x1, .f32⟩
  | .hbm, ⟨5, _⟩ => ⟨S16384x1024, .f32⟩
  | .hbm, ⟨6, _⟩ => ⟨S_, .f32⟩
  | .hbm, ⟨7, _⟩ => ⟨S_, .f32⟩
  | .local _ .vmem, ⟨0, _⟩ => ⟨S512x64, .f32⟩
  | .local _ .vmem, ⟨1, _⟩ => ⟨S512x64, .f32⟩
  | .local _ .vmem, ⟨2, _⟩ => ⟨S1024x64, .f32⟩
  | .local _ .vmem, ⟨3, _⟩ => ⟨S512x64, .f32⟩
  | .local _ .vmem, ⟨4, _⟩ => ⟨S512x64, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_v0_1 : Ref sig .tc := ⟨.hbm, 3, rfl⟩
abbrev main_call0_v0_2 : Ref sig .tc := ⟨.hbm, 4, rfl⟩
abbrev main_v0_3 : Ref sig .tc := ⟨.hbm, 5, rfl⟩
abbrev main_v0_0 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch1 : Ref sig .tc := ⟨.vmem, 7, rfl⟩
abbrev cc0_stg2_0 : Ref sig .tc := ⟨.smem, 0, rfl⟩
abbrev cc0_stg4_0 : Ref sig .tc := ⟨.smem, 1, rfl⟩
abbrev cc0_scratch0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v59 : BitVec 1 := Scalar.cmpi .eq arg0 c31_i32
  let v60 : BitVec 32 := Scalar.extui v59
  let c0_i32_29 : BitVec 32 := 0#32
  let v61 : BitVec 1 := Scalar.cmpi .ne v60 c0_i32_29
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x64 : Shape := ⟨2, ![16384, 64]⟩
abbrev S1024x64 : Shape := ⟨2, ![1024, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S64x1024 : Shape := ⟨2, ![64, 1024]⟩
abbrev S16384x1024 : Shape := ⟨2, ![16384, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S64x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .i32⟩
  | .hbm, ⟨24, _⟩ => ⟨S_, .f32⟩
  | .hbm, ⟨25, _⟩ => ⟨S_, .i32⟩
  | .hbm, ⟨26, _⟩ => ⟨S16384, .f32⟩
  | .hbm, ⟨27, _⟩ => ⟨S16384, .i32⟩
  | .hbm, ⟨28, _⟩ => ⟨S16384x1, .i32⟩
  | .hbm, ⟨29, _⟩ => ⟨S1x1024, .i32⟩
  | .hbm, ⟨30, _⟩ => ⟨S16384x1024, .i32⟩
  | .hbm, ⟨31, _⟩ => ⟨S16384x1024, .i32⟩
  | .hbm, ⟨32, _⟩ => ⟨S16384x1024, .i1⟩
  | .hbm, ⟨33, _⟩ => ⟨S16384x1024, .f32⟩
  | .hbm, ⟨34, _⟩ => ⟨S16384x64, .f32⟩
  | .hbm, ⟨35, _⟩ => ⟨S16384x64, .f32⟩
  | .hbm, ⟨36, _⟩ => ⟨S16384x64, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S16384x64, .f32⟩
  | .hbm, ⟨44, _⟩ => ⟨S16384x64, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.VQ

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid step is the first one. -/
abbrev isFirst (i : grid0.Coords) : Prop :=
  (Scalar.cmpi .ne (Scalar.extui (Scalar.cmpi .eq (BitVec.ofNat 32 (i 0).val) 0#32)) 0#32) = 1#1
/-- The grid step is the last one. -/
abbrev isLast (i : grid0.Coords) : Prop := k0_cond3 i = 1#1
/-- The mask of the block `x` does not hold exactly one entry per row, so that the step recomputes it. -/
abbrev isSlow (x : Vec F S512x64 .f32) (w : Vec F S1024x64 .f32) : Prop :=
  (Scalar.cmpi .ne (Scalar.extui (Scalar.cmpf .one (k0_pay16 x w) (FloatOps.ofBits .f32 0x44000000#32))) 0#32) = 1#1

/-- The encodings that a step leaves for its block. -/
def encB (x : Vec F S512x64 .f32) (w : Vec F S1024x64 .f32) : Vec F S512x1024 .f32 :=
  if isSlow x w then k0_pay8 (k0_pay13 x w) else k0_pay14 x w
/-- The quantized rows that a step leaves for its block. -/
def qstB (x : Vec F S512x64 .f32) (w : Vec F S1024x64 .f32) : Vec F S512x64 .f32 :=
  if isSlow x w then k0_pay10 x w (k0_pay13 x w) else k0_pay18 x w
/-- The running loss after a step that found `l`. -/
def lossB (x : Vec F S512x64 .f32) (w : Vec F S1024x64 .f32) (l : Elt F .f32) : Elt F .f32 :=
  if isSlow x w then k0_pay11 x w (k0_pay13 x w) (k0_pay1 x (k0_pay17 x w)) (k0_pay3 x (k0_pay17 x w) l)
  else k0_pay3 x (k0_pay17 x w) l
/-- The running counts after a step that found `a`. -/
def cntB (x : Vec F S512x64 .f32) (w : Vec F S1024x64 .f32) (a : Vec F S1x1024 .f32) : Vec F S1x1024 .f32 :=
  if isSlow x w then k0_pay5 (k0_pay12 (k0_pay13 x w) (k0_pay15 x w) (k0_pay4 (k0_pay15 x w) a))
  else k0_pay4 (k0_pay15 x w) a

/-- One grid step on any arguments: the blocks `x0`, `x1` are kept, the two block results are written, the running loss and
counts move by one step, from zero at the first step, and the last step stores the two scalars. -/
def stepPre (c : Dev nD) (arg1 : Memref sig .tc .vmem S512x64 .f32) (arg2 : Memref sig .tc .vmem S1024x64 .f32) (arg3 : Memref sig .tc .smem S1x1 .f32) (arg4 : Memref sig .tc .vmem S512x64 .f32) (arg5 : Memref sig .tc .smem S1x1 .f32) (arg6 : Memref sig .tc .vmem S512x1024 .f32) (arg7 : Memref sig .tc .smem S1x1 .f32) (arg8 : Memref sig .tc .vmem S1x1024 .f32)
    (x0 : Vec F S512x64 .f32) (x1 : Vec F S1024x64 .f32) (xi2 : Vec F S1x1 .f32) (xi3 : Vec F S512x64 .f32) (xi4 : Vec F S1x1 .f32) (xi5 : Vec F S512x1024 .f32) (xs0 : Vec F S1x1 .f32) (xs1 : Vec F S1x1024 .f32) : sProp 𝕄 :=
  iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xi4 ∗ owns (c : Thread nD τ) arg6 fullShare xi5 ∗ owns (c : Thread nD τ) arg7 fullShare xs0 ∗ owns (c : Thread nD τ) arg8 fullShare xs1)

/-- The running loss after a step at `i` that found `l`, which the first step sets to zero. -/
def lossAt (i : grid0.Coords) (x : Vec F S512x64 .f32) (w : Vec F S1024x64 .f32) (l : Elt F .f32) : Elt F .f32 :=
  lossB x w (if isFirst i then FloatOps.ofBits .f32 0x00000000#32 else l)
/-- The running counts after a step at `i` that found `a`, which the first step sets to zero. -/
def cntAt (i : grid0.Coords) (x : Vec F S512x64 .f32) (w : Vec F S1024x64 .f32) (a : Vec F S1x1024 .f32) : Vec F S1x1024 .f32 :=
  cntB x w (if isFirst i then k0_pay2 else a)

/-! Loads and stores of whole buffers, in the spellings in which the body's run states them. -/

/-- Loading a whole block of rows gives its contents. -/
theorem ld_x {m : Memref sig .tc .vmem S512x64 .f32} (h : m.IsWhole) (x : Vec F S512x64 .f32) (inb : ∀ a, (![0, 0] : Fin 2 → ℕ) a + (![512, 64] : Fin 2 → ℕ) a ≤ S512x64.size a) :
    m.view.readAt (Elt F) (Rect.unit (s := S512x64) ![0, 0] ![512, 64] inb).toLoadRect (h.unread x) = x :=
  (View.readAt_full (s := S512x64) _ _ inb).trans (h.read_unread x)
/-- Storing over a whole block of rows leaves what was stored. -/
theorem st_x (v : View sig .tc .vmem S512x64 .f32) (f : v.ty.Contents (Elt F)) (x : Vec F S512x64 .f32) (inb : ∀ a, (![0, 0] : Fin 2 → ℕ) a + (![512, 64] : Fin 2 → ℕ) a ≤ S512x64.size a) (L : List (View.Piece (Elt F) S512x64 .f32)) :
    v.read (Elt F) (v.writes (Elt F) f (⟨Rect.unit (s := S512x64) ![0, 0] ![512, 64] inb, x⟩ :: L)) = x :=
  View.read_writes_full (s := S512x64) v f inb x L
/-- Loading the whole codebook gives its contents. -/
theorem ld_w {m : Memref sig .tc .vmem S1024x64 .f32} (h : m.IsWhole) (x : Vec F S1024x64 .f32) (inb : ∀ a, (![0, 0] : Fin 2 → ℕ) a + (![1024, 64] : Fin 2 → ℕ) a ≤ S1024x64.size a) :
    m.view.readAt (Elt F) (Rect.unit (s := S1024x64) ![0, 0] ![1024, 64] inb).toLoadRect (h.unread x) = x :=
  (View.readAt_full (s := S1024x64) _ _ inb).trans (h.read_unread x)
/-- Loading a scalar cell gives its contents. -/
theorem ld_s {m : Memref sig .tc .smem S1x1 .f32} (h : m.IsWhole) (x : Vec F S1x1 .f32) (inb : ∀ a, (![0, 0] : Fin 2 → ℕ) a + (![1, 1] : Fin 2 → ℕ) a ≤ S1x1.size a) :
    m.view.readAt (Elt F) (Rect.unit (s := S1x1) ![0, 0] ![1, 1] inb).toLoadRect (h.unread x) = x :=
  (View.readAt_full (s := S1x1) _ _ inb).trans (h.read_unread x)
/-- Storing into a scalar cell leaves what was stored. -/
theorem st_s (v : View sig .tc .smem S1x1 .f32) (f : v.ty.Contents (Elt F)) (x : Vec F S1x1 .f32) (inb : ∀ a, (![0, 0] : Fin 2 → ℕ) a + (![1, 1] : Fin 2 → ℕ) a ≤ S1x1.size a) (L : List (View.Piece (Elt F) S1x1 .f32)) :
    v.read (Elt F) (v.writes (Elt F) f (⟨Rect.unit (s := S1x1) ![0, 0] ![1, 1] inb, x⟩ :: L)) = x :=
  View.read_writes_full (s := S1x1) v f inb x L
/-- One store covers a scalar cell. -/
theorem cov_s (v : View sig .tc .smem S1x1 .f32) (x : Vec F S1x1 .f32) (inb inb' : ∀ a, (![0, 0] : Fin 2 → ℕ) a + (![1, 1] : Fin 2 → ℕ) a ≤ S1x1.size a) (L : List (View.Piece (Elt F) S1x1 .f32)) :
    v.readCov (⟨Rect.unit (s := S1x1) ![0, 0] ![1, 1] inb', x⟩ :: L) (Rect.unit (s := S1x1) ![0, 0] ![1, 1] inb).toLoadRect = x :=
  View.readCov_full (s := S1x1) v inb inb' x L
/-- Loading a scalar cell just stored gives what was stored. -/
theorem ldst_s (v : View sig .tc .smem S1x1 .f32) (f : v.ty.Contents (Elt F)) (x : Vec F S1x1 .f32) (inb inb' : ∀ a, (![0, 0] : Fin 2 → ℕ) a + (![1, 1] : Fin 2 → ℕ) a ≤ S1x1.size a) (L : List (View.Piece (Elt F) S1x1 .f32)) :
    v.readAt (Elt F) (Rect.unit (s := S1x1) ![0, 0] ![1, 1] inb).toLoadRect (v.writes (Elt F) f (⟨Rect.unit (s := S1x1) ![0, 0] ![1, 1] inb', x⟩ :: L)) = x :=
  View.readAt_writes_full (s := S1x1) v f inb inb' x L
/-- Loading the counts gives their contents. -/
theorem ld_c {m : Memref sig .tc .vmem S1x1024 .f32} (h : m.IsWhole) (x : Vec F S1x1024 .f32) (inb : ∀ a, (![0, 0] : Fin 2 → ℕ) a + (![1, 1024] : Fin 2 → ℕ) a ≤ S1x1024.size a) :
    m.view.readAt (Elt F) (Rect.unit (s := S1x1024) ![0, 0] ![1, 1024] inb).toLoadRect (h.unread x) = x :=
  (View.readAt_full (s := S1x1024) _ _ inb).trans (h.read_unread x)
/-- Storing over the counts leaves what was stored. -/
theorem st_c (v : View sig .tc .vmem S1x1024 .f32) (f : v.ty.Contents (Elt F)) (x : Vec F S1x1024 .f32) (inb : ∀ a, (![0, 0] : Fin 2 → ℕ) a + (![1, 1024] : Fin 2 → ℕ) a ≤ S1x1024.size a) (L : List (View.Piece (Elt F) S1x1024 .f32)) :
    v.read (Elt F) (v.writes (Elt F) f (⟨Rect.unit (s := S1x1024) ![0, 0] ![1, 1024] inb, x⟩ :: L)) = x :=
  View.read_writes_full (s := S1x1024) v f inb x L
/-- One store covers the counts. -/
theorem cov_c (v : View sig .tc .vmem S1x1024 .f32) (x : Vec F S1x1024 .f32) (inb inb' : ∀ a, (![0, 0] : Fin 2 → ℕ) a + (![1, 1024] : Fin 2 → ℕ) a ≤ S1x1024.size a) (L : List (View.Piece (Elt F) S1x1024 .f32)) :
    v.readCov (⟨Rect.unit (s := S1x1024) ![0, 0] ![1, 1024] inb', x⟩ :: L) (Rect.unit (s := S1x1024) ![0, 0] ![1, 1024] inb).toLoadRect = x :=
  View.readCov_full (s := S1x1024) v inb inb' x L
/-- Loading the counts just stored gives what was stored. -/
theorem ldst_c (v : View sig .tc .vmem S1x1024 .f32) (f : v.ty.Contents (Elt F)) (x : Vec F S1x1024 .f32) (inb inb' : ∀ a, (![0, 0] : Fin 2 → ℕ) a + (![1, 1024] : Fin 2 → ℕ) a ≤ S1x1024.size a) (L : List (View.Piece (Elt F) S1x1024 .f32)) :
    v.readAt (Elt F) (Rect.unit (s := S1x1024) ![0, 0] ![1, 1024] inb).toLoadRect (v.writes (Elt F) f (⟨Rect.unit (s := S1x1024) ![0, 0] ![1, 1024] inb', x⟩ :: L)) = x :=
  View.readAt_writes_full (s := S1x1024) v f inb inb' x L
/-- Storing over a whole block of encodings leaves what was stored. -/
theorem st_e (v : View sig .tc .vmem S512x1024 .f32) (f : v.ty.Contents (Elt F)) (x : Vec F S512x1024 .f32) (inb : ∀ a, (![0, 0] : Fin 2 → ℕ) a + (![512, 1024] : Fin 2 → ℕ) a ≤ S512x1024.size a) (L : List (View.Piece (Elt F) S512x1024 .f32)) :
    v.read (Elt F) (v.writes (Elt F) f (⟨Rect.unit (s := S512x1024) ![0, 0] ![512, 1024] inb, x⟩ :: L)) = x :=
  View.read_writes_full (s := S512x1024) v f inb x L

set_option maxHeartbeats 4000000 in
/-- One step of the body, from the buffers' contents before it to those after it. -/
theorem run_step (c : Dev nD) (i : grid0.Coords) (arg1 : Memref sig .tc .vmem S512x64 .f32) (harg1 : arg1.IsWhole) (arg2 : Memref sig .tc .vmem S1024x64 .f32) (harg2 : arg2.IsWhole) (arg3 : Memref sig .tc .smem S1x1 .f32) (harg3 : arg3.IsWhole) (arg4 : Memref sig .tc .vmem S512x64 .f32) (harg4 : arg4.IsWhole) (arg5 : Memref sig .tc .smem S1x1 .f32) (harg5 : arg5.IsWhole) (arg6 : Memref sig .tc .vmem S512x1024 .f32) (harg6 : arg6.IsWhole) (arg7 : Memref sig .tc .smem S1x1 .f32) (harg7 : arg7.IsWhole) (arg8 : Memref sig .tc .vmem S1x1024 .f32) (harg8 : arg8.IsWhole)
    (x0 : Vec F S512x64 .f32) (x1 : Vec F S1024x64 .f32) (xi2 : Vec F S1x1 .f32) (xi3 : Vec F S512x64 .f32) (xi4 : Vec F S1x1 .f32) (xi5 : Vec F S512x1024 .f32) (l0 : Elt F .f32) (xs1 : Vec F S1x1024 .f32)
    (E : Set ℕ) (K : PUnit → sProp 𝕄) :
    iprop(stepPre c arg1 arg2 arg3 arg4 arg5 arg6 arg7 arg8 x0 x1 xi2 xi3 xi4 xi5 (fun _ => l0) xs1
        ∗ (stepPre c arg1 arg2 arg3 arg4 arg5 arg6 arg7 arg8 x0 x1
            (if isLast i then fun _ => k0_pay6 (lossAt i x0 x1 l0) else xi2) (qstB x0 x1)
            (if isLast i then fun _ => k0_pay7 (cntAt i x0 x1 xs1) else xi4) (encB x0 x1)
            (fun _ => lossAt i x0 x1 l0) (cntAt i x0 x1 xs1) -∗ K ⟨⟩))
      ⊢ wp frame (wpE (defs₀ (F := F)) Variants.none c none) E (cc0__vq_kernel i arg1 harg1 arg2 harg2 arg3 harg3 arg4 harg4 arg5 harg5 arg6 harg6 arg7 harg7 arg8 harg8) K := by
  by_cases hc0 : isFirst i <;> by_cases hc2 : isLast i
  all_goals
    simp only [cc0__vq_kernel_eq_skeleton]; unfold cc0__vq_kernel_skel
    simp only [k0_part2_eq_skeleton, k0_part1_eq_skeleton]
    unfold stepPre owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | sl_exact hc0 | sl_exact hc2)
    sl_step; iapply Hk
    isplitl [H0]
    · iexists _; isplitr; swap
      · iexact H0
      · ipureintro; exact harg1.read_unread _
    isplitl [H1]
    · iexists _; isplitr; swap
      · iexact H1
      · ipureintro; exact harg2.read_unread _
    isplitl [H2]
    · iexists _; isplitr; swap
      · iexact H2
      · ipureintro; sl_unfold_run_names; by_cases hs : isSlow x0 x1 <;> simp only [encB, qstB, lossAt, cntAt, lossB, cntB, hc0, hc2, hs, if_true, if_false, dite_true, dite_false, ↓reduceIte, ↓reduceDIte, Memref.IsWhole.read_unread, ld_x, st_x, ld_w, ld_s, st_s, cov_s, ldst_s, ld_c, st_c, cov_c, ldst_c, st_e] <;> (try simp only [if_pos hc0]) <;> (try simp only [if_pos hc2]) <;> (try simp only [if_pos hs]) <;> rfl
    isplitl [H3]
    · iexists _; isplitr; swap
      · iexact H3
      · ipureintro; sl_unfold_run_names; by_cases hs : isSlow x0 x1 <;> simp only [encB, qstB, lossAt, cntAt, lossB, cntB, hc0, hc2, hs, if_true, if_false, dite_true, dite_false, ↓reduceIte, ↓reduceDIte, Memref.IsWhole.read_unread, ld_x, st_x, ld_w, ld_s, st_s, cov_s, ldst_s, ld_c, st_c, cov_c, ldst_c, st_e] <;> (try simp only [if_pos hc0]) <;> (try simp only [if_pos hc2]) <;> (try simp only [if_pos hs]) <;> rfl
    isplitl [H4]
    · iexists _; isplitr; swap
      · iexact H4
      · ipureintro; sl_unfold_run_names; by_cases hs : isSlow x0 x1 <;> simp only [encB, qstB, lossAt, cntAt, lossB, cntB, hc0, hc2, hs, if_true, if_false, dite_true, dite_false, ↓reduceIte, ↓reduceDIte, Memref.IsWhole.read_unread, ld_x, st_x, ld_w, ld_s, st_s, cov_s, ldst_s, ld_c, st_c, cov_c, ldst_c, st_e] <;> (try simp only [if_pos hc0]) <;> (try simp only [if_pos hc2]) <;> (try simp only [if_pos hs]) <;> rfl
    isplitl [H5]
    · iexists _; isplitr; swap
      · iexact H5
      · ipureintro; sl_unfold_run_names; by_cases hs : isSlow x0 x1 <;> simp only [encB, qstB, lossAt, cntAt, lossB, cntB, hc0, hc2, hs, if_true, if_false, dite_true, dite_false, ↓reduceIte, ↓reduceDIte, Memref.IsWhole.read_unread, ld_x, st_x, ld_w, ld_s, st_s, cov_s, ldst_s, ld_c, st_c, cov_c, ldst_c, st_e] <;> (try simp only [if_pos hc0]) <;> (try simp only [if_pos hc2]) <;> (try simp only [if_pos hs]) <;> rfl
    isplitl [HS0]
    · iexists _; isplitr; swap
      · iexact HS0
      · ipureintro; sl_unfold_run_names; by_cases hs : isSlow x0 x1 <;> simp only [encB, qstB, lossAt, cntAt, lossB, cntB, hc0, hc2, hs, if_true, if_false, dite_true, dite_false, ↓reduceIte, ↓reduceDIte, Memref.IsWhole.read_unread, ld_x, st_x, ld_w, ld_s, st_s, cov_s, ldst_s, ld_c, st_c, cov_c, ldst_c, st_e] <;> (try simp only [if_pos hc0]) <;> (try simp only [if_pos hc2]) <;> (try simp only [if_pos hs]) <;> rfl
    · iexists _; isplitr; swap
      · iexact HS1
      · ipureintro; sl_unfold_run_names; by_cases hs : isSlow x0 x1 <;> simp only [encB, qstB, lossAt, cntAt, lossB, cntB, hc0, hc2, hs, if_true, if_false, dite_true, dite_false, ↓reduceIte, ↓reduceDIte, Memref.IsWhole.read_unread, ld_x, st_x, ld_w, ld_s, st_s, cov_s, ldst_s, ld_c, st_c, cov_c, ldst_c, st_e] <;> (try simp only [if_pos hc0]) <;> (try simp only [if_pos hc2]) <;> (try simp only [if_pos hs]) <;> rfl

end Cert.KernelIdeal.VQ

end
-- ==== Proof.Run.lean ====
module

public import proofs.«01_k».proof.Proof.Body
public import Idealize.ShloMosaic.Lib.Claim

@[expose] public section

set_option maxRecDepth 16384

noncomputable section

namespace Cert.KernelIdeal.VQ

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions over the grid, and where the scalar results are idle -/

/-- The first step is the grid's point 0. -/
theorem isFirst_iff : ∀ t : Fin cfg0.N, isFirst (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [isFirst, e0]
    word_cmp
   : ∀ t : Fin grid0.N, isFirst (grid0.coords t) ↔ t.val = 0)

/-- The last step is the grid's point 31. -/
theorem isLast_iff : ∀ t : Fin cfg0.N, isLast (grid0.coords t) ↔ t.val = 31 :=
  (fun t => by
    have ht : t.val < 32 := Nat.lt_of_lt_of_eq t.isLt N_0
    have e0 : (grid0.coords t 0).val = t.val / 1 % 32 := Pipeline.Grid.coords_val t 0 (by decide) rfl
    simp only [isLast, k0_cond3, e0]
    word_cmp
   : ∀ t : Fin grid0.N, isLast (grid0.coords t) ↔ t.val = 31)

/-- Before the last step the body leaves the loss' block alone. -/
theorem idle2 : ∀ t : Fin cfg0.N, ¬isLast (grid0.coords t) → cfg0.idle 2 (grid0.coords t) = true := by decide +kernel
/-- Before the last step the body leaves the perplexity's block alone. -/
theorem idle4 : ∀ t : Fin cfg0.N, ¬isLast (grid0.coords t) → cfg0.idle 4 (grid0.coords t) = true := by decide +kernel
/-- At the last step the body stores the loss. -/
theorem live2 : ∀ t : Fin cfg0.N, isLast (grid0.coords t) → cfg0.idle 2 (grid0.coords t) = false := by decide +kernel
/-- At the last step the body stores the perplexity. -/
theorem live4 : ∀ t : Fin cfg0.N, isLast (grid0.coords t) → cfg0.idle 4 (grid0.coords t) = false := by decide +kernel
/-- Before the last step the loss' block is not written back. -/
theorem kept2 : ∀ t : Fin cfg0.N, ¬isLast (grid0.coords t) → (cfg0.win 2).flush t = false := by decide +kernel
/-- Before the last step the perplexity's block is not written back. -/
theorem kept4 : ∀ t : Fin cfg0.N, ¬isLast (grid0.coords t) → (cfg0.win 4).flush t = false := by decide +kernel

/-! ## The buffers of a step -/

/-- The rows' buffer. -/
abbrev b0 (t : Fin cfg0.N) : Memref sig .tc .vmem S512x64 .f32 := win0_0.stage (cfg0.slots t 0)
/-- The codebook's buffer. -/
abbrev b1 (t : Fin cfg0.N) : Memref sig .tc .vmem S1024x64 .f32 := win0_1.stage (cfg0.slots t 1)
/-- The loss' buffer. -/
abbrev b2 (t : Fin cfg0.N) : Memref sig .tc .smem S1x1 .f32 := win0_2.stage (cfg0.slots t 2)
/-- The quantized rows' buffer. -/
abbrev b3 (t : Fin cfg0.N) : Memref sig .tc .vmem S512x64 .f32 := win0_3.stage (cfg0.slots t 3)
/-- The perplexity's buffer. -/
abbrev b4 (t : Fin cfg0.N) : Memref sig .tc .smem S1x1 .f32 := win0_4.stage (cfg0.slots t 4)
/-- The encodings' buffer. -/
abbrev b5 (t : Fin cfg0.N) : Memref sig .tc .vmem S512x1024 .f32 := win0_5.stage (cfg0.slots t 5)
/-- The running loss' buffer. -/
abbrev bL : Memref sig .tc .smem S1x1 .f32 := Memref.whole cc0_scratch0
/-- The running counts' buffer. -/
abbrev bC : Memref sig .tc .vmem S1x1024 .f32 := Memref.whole cc0_scratch1

/-- What the launch hands the region: the two carried buffers at anything, and the generator register. -/
theorem PhiA_eq (c : Dev nD) :
    (Pipeline.ΦA spec0 c : sProp 𝕄)
      = iprop(iprop((∃ d, owns (c : Thread nD τ) bC fullShare d) ∗ (∃ d, owns (c : Thread nD τ) bL fullShare d)) ∗ (∃ r, prngReg c r)) := by
  unfold Pipeline.ΦA; rw [scopedRest0_eq]; simp only [bL, bC, owns_whole]; try rfl

/-! ## What the carried buffers hold -/

/-- The block of rows that step `t` works on. -/
abbrev xB (c : Dev nD) (t : Fin cfg0.N) : Vec F S512x64 .f32 := iblk m c 0 t
/-- The codebook as step `t` finds it. -/
abbrev wB (c : Dev nD) (t : Fin cfg0.N) : Vec F S1024x64 .f32 := iblk m c 1 t

/-- The running loss and counts after step `n`. -/
def accAt (c : Dev nD) : (n : ℕ) → n < cfg0.N → Elt F .f32 × Vec F S1x1024 .f32
  | 0, h => (lossB (xB m c ⟨0, h⟩) (wB m c ⟨0, h⟩) (FloatOps.ofBits .f32 0x00000000#32), cntB (xB m c ⟨0, h⟩) (wB m c ⟨0, h⟩) k0_pay2)
  | n + 1, h => (lossB (xB m c ⟨n + 1, h⟩) (wB m c ⟨n + 1, h⟩) (accAt c n (Nat.lt_of_succ_lt h)).1,
      cntB (xB m c ⟨n + 1, h⟩) (wB m c ⟨n + 1, h⟩) (accAt c n (Nat.lt_of_succ_lt h)).2)

/-- The first step starts from zero, whatever the carried buffers held. -/
theorem accAt_first (c : Dev nD) (t : Fin cfg0.N) (h : t.val = 0) (l : Elt F .f32) (a : Vec F S1x1024 .f32) :
    accAt m c t.val t.isLt = (lossAt (grid0.coords t) (xB m c t) (wB m c t) l, cntAt (grid0.coords t) (xB m c t) (wB m c t) a) := by
  obtain ⟨n, hn⟩ := t
  obtain rfl : n = 0 := h
  have := (isFirst_iff ⟨0, hn⟩).mpr rfl
  unfold lossAt cntAt
  rw [if_pos this, if_pos this]; rfl

/-- A later step continues from the step before it. -/
theorem accAt_later (c : Dev nD) (t : Fin cfg0.N) (h : t.val ≠ 0) :
    accAt m c t.val t.isLt = (lossAt (grid0.coords t) (xB m c t) (wB m c t) (accAt m c (t.val - 1) (by omega)).1,
      cntAt (grid0.coords t) (xB m c t) (wB m c t) (accAt m c (t.val - 1) (by omega)).2) := by
  obtain ⟨n, hn⟩ := t
  obtain ⟨k, rfl⟩ : ∃ k, n = k + 1 := ⟨n - 1, by simp only at h; omega⟩
  have := fun q => h ((isFirst_iff ⟨k + 1, hn⟩).mp q)
  unfold lossAt cntAt
  rw [if_neg this, if_neg this]; rfl

/-- The region invariant before step `n`: at first the carried buffers at anything, later at `accAt`. -/
def PhiS (c : Dev nD) : (n : ℕ) → n ≤ cfg0.N → sProp 𝕄
  | 0, _ => Pipeline.ΦA spec0 c
  | n + 1, hn => iprop(iprop(owns (c : Thread nD τ) bC fullShare (accAt m c n hn).2 ∗ owns (c : Thread nD τ) bL fullShare (fun _ => (accAt m c n hn).1)) ∗ (∃ r, prngReg c r))

/-- Before the first step the carried buffers hold anything. -/
theorem PhiS_zero (c : Dev nD) (n : ℕ) (h : n ≤ cfg0.N) (hz : n = 0) : PhiS m c n h = Pipeline.ΦA spec0 c := by
  subst hz; rfl

/-- After a step the carried buffers hold the running loss and counts. -/
theorem PhiS_pos (c : Dev nD) (n : ℕ) (h : n ≤ cfg0.N) (hz : n ≠ 0) :
    PhiS m c n h = iprop(iprop(owns (c : Thread nD τ) bC fullShare (accAt m c (n - 1) (by omega)).2 ∗ owns (c : Thread nD τ) bL fullShare (fun _ => (accAt m c (n - 1) (by omega)).1)) ∗ (∃ r, prngReg c r)) := by
  cases n with
  | zero => exact absurd rfl hz
  | succ n => rfl

/-! ## The proof data -/

/-- The proof data: the arrays as the region finds them, what each step leaves in each window, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (fun _ => k0_pay6 (accAt m c t.val t.isLt).1 : Vec F S1x1 .f32)
    | ⟨3, _⟩ => qstB (xB m c t) (wB m c t)
    | ⟨4, _⟩ => (fun _ => k0_pay7 (accAt m c t.val t.isLt).2 : Vec F S1x1 .f32)
    | ⟨5, _⟩ => encB (xB m c t) (wB m c t)
  Φ t := PhiS m c t.val (Nat.le_of_lt_succ t.isLt)
  q _ := fullShare
  owed _ := 0

/-- Every window's array starts at the launch's contents. -/
theorem A_eq (c : Dev nD) (w : Fin cfg0.W) : (dats m 0 c).A w = V m c (Pipeline.arrRef spec0 w) := by
  dsimp only [dats]
/-- What the carried buffers hold before a step. -/
theorem Phi_castSucc (c : Dev nD) (t : Fin cfg0.N) : (dats m 0 c).Φ t.castSucc = PhiS m c t.val (Nat.le_of_lt t.isLt) := by
  dsimp only [dats]; exact Pipeline.Dat.Φ_castSucc (PhiS m c) t
/-- The body leaves the rows' block as it was. -/
theorem after0 (c : Dev nD) (t : Fin cfg0.N) : (dats m 0 c).after 0 t = iblk m c 0 t := by dsimp only [dats]
/-- The body leaves the codebook as it was. -/
theorem after1 (c : Dev nD) (t : Fin cfg0.N) : (dats m 0 c).after 1 t = iblk m c 1 t := by dsimp only [dats]
/-- The loss' block after a step that stores it. -/
theorem after2 (c : Dev nD) (t : Fin cfg0.N) : (dats m 0 c).after 2 t = (fun _ => k0_pay6 (accAt m c t.val t.isLt).1 : Vec F S1x1 .f32) := by dsimp only [dats]
/-- The quantized rows' block after a step. -/
theorem after3 (c : Dev nD) (t : Fin cfg0.N) : (dats m 0 c).after 3 t = qstB (xB m c t) (wB m c t) := by dsimp only [dats]
/-- The perplexity's block after a step that stores it. -/
theorem after4 (c : Dev nD) (t : Fin cfg0.N) : (dats m 0 c).after 4 t = (fun _ => k0_pay7 (accAt m c t.val t.isLt).2 : Vec F S1x1 .f32) := by dsimp only [dats]
/-- The encodings' block after a step. -/
theorem after5 (c : Dev nD) (t : Fin cfg0.N) : (dats m 0 c).after 5 t = encB (xB m c t) (wB m c t) := by dsimp only [dats]
/-- The rows' block before a step. -/
theorem before0 (c : Dev nD) (t : Fin cfg0.N) (d) : (dats m 0 c).before 0 t d = iblk m c 0 t :=
  before0_0_of m (dats m 0 c) (A_eq m c 0) (after0 m c) t d
/-- The codebook before a step. -/
theorem before1 (c : Dev nD) (t : Fin cfg0.N) (d) : (dats m 0 c).before 1 t d = iblk m c 1 t :=
  before0_1_of m (dats m 0 c) (A_eq m c 1) (after1 m c) t d

/-! ## The body obligation -/

/-- What the body is called with at step `t`. -/
def bodyPre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- A one-by-one array has one index. -/
theorem S1x1_idx (i j : S1x1.Idx) : i = j :=
  funext fun a => by fin_cases a <;> exact Subsingleton.elim (α := Fin 1) _ _

/-- The invariant before step `t` gives the carried buffers at contents from which the step's results are `accAt`'s. -/
theorem Phi_open (c : Dev nD) (t : Fin cfg0.N) :
    PhiS m c t.val (Nat.le_of_lt t.isLt) ⊢ iprop(∃ l a, ⌜accAt m c t.val t.isLt = (lossAt (grid0.coords t) (xB m c t) (wB m c t) l, cntAt (grid0.coords t) (xB m c t) (wB m c t) a)⌝
      ∗ owns (c : Thread nD τ) bC fullShare a ∗ owns (c : Thread nD τ) bL fullShare (fun _ => l) ∗ (∃ r, prngReg c r)) := by
  by_cases hz : t.val = 0
  · rw [PhiS_zero m c _ _ hz, PhiA_eq]
    iintro ⟨⟨⟨%a, HC⟩, ⟨%d, HL⟩⟩, Hg⟩
    obtain ⟨l, rfl⟩ : ∃ l : Elt F .f32, d = fun _ => l := ⟨d (Shape.Idx.first (by decide)), funext fun i => congrArg d (S1x1_idx i _)⟩
    iexists l; iexists a
    isplitr
    · ipureintro; exact accAt_first m c t hz l a
    isplitl [HC]; · iexact HC
    isplitl [HL]; · iexact HL
    iexact Hg
  · rw [PhiS_pos m c _ _ hz]
    iintro ⟨⟨HC, HL⟩, Hg⟩
    iexists _; iexists _
    isplitr
    · ipureintro; exact accAt_later m c t hz
    isplitl [HC]; · iexact HC
    isplitl [HL]; · iexact HL
    iexact Hg

set_option maxHeartbeats 4000000 in
/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = iprop(iprop(owns (c : Thread nD τ) bC fullShare (accAt m c t.val t.isLt).2 ∗ owns (c : Thread nD τ) bL fullShare (fun _ => (accAt m c t.val t.isLt).1)) ∗ (∃ r, prngReg c r)) from rfl, Phi_castSucc]
  rw [show (dats m 0 c).leavesExact 0 t = owns (c : Thread nD τ) (b0 t) fullShare ((dats m 0 c).after 0 t) from rfl, after0]
  rw [show (dats m 0 c).leavesExact 1 t = owns (c : Thread nD τ) (b1 t) fullShare ((dats m 0 c).after 1 t) from rfl, after1]
  rw [show (dats m 0 c).leavesExact 3 t = owns (c : Thread nD τ) (b3 t) fullShare ((dats m 0 c).after 3 t) from rfl, after3]
  rw [show (dats m 0 c).leavesExact 5 t = owns (c : Thread nD τ) (b5 t) fullShare ((dats m 0 c).after 5 t) from rfl, after5]
  by_cases hl : isLast (grid0.coords t)
  · rw [show (dats m 0 c).leavesExact 2 t = owns (c : Thread nD τ) (b2 t) fullShare ((dats m 0 c).after 2 t) from by
      unfold Dat.leavesExact; rw [live2 t hl], after2]
    rw [show (dats m 0 c).leavesExact 4 t = owns (c : Thread nD τ) (b4 t) fullShare ((dats m 0 c).after 4 t) from by
      unfold Dat.leavesExact; rw [live4 t hl], after4]
    iintro ⟨HP, Ho, ⟨%d0, H0⟩, ⟨%d1, H1⟩, ⟨%d2, H2⟩, ⟨%d3, H3⟩, ⟨%d4, H4⟩, ⟨%d5, H5⟩⟩
    ihave HP := (Phi_open m c t) $$ HP
    icases HP with ⟨%l, %a, %hacc, HC, HL, Hg⟩
    rw [hacc]
    iapply (run_step c (grid0.coords t) _ _ _ _ _ _ _ _ _ _ _ _ _ _ _ _ (xB m c t) (wB m c t) _ _ _ _ l a Set.univ _)
    unfold stepPre
    rw [if_pos hl, if_pos hl]
    isplitl [H0 H1 H2 H3 H4 H5 HC HL]
    · isplitl [H0]; · iexact H0
      isplitl [H1]; · iexact H1
      isplitl [H2]; · iexact H2
      isplitl [H3]; · iexact H3
      isplitl [H4]; · iexact H4
      isplitl [H5]; · iexact H5
      isplitl [HL]; · iexact HL
      iexact HC
    iintro ⟨H0, H1, H2, H3, H4, H5, HL, HC⟩
    isplitl [HC HL Hg]
    · isplitl [HC HL]
      · isplitl [HC]; · iexact HC
        iexact HL
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dats m 0 c) 2 t (idle2 t hl) (kept2 t hl), Dat.leavesExact_idle (dats m 0 c) 4 t (idle4 t hl) (kept4 t hl)]
    iintro ⟨HP, Ho, ⟨%d0, H0⟩, ⟨%d1, H1⟩, ⟨%d2, H2⟩, ⟨%d3, H3⟩, ⟨%d4, H4⟩, ⟨%d5, H5⟩⟩
    ihave HP := (Phi_open m c t) $$ HP
    icases HP with ⟨%l, %a, %hacc, HC, HL, Hg⟩
    rw [hacc]
    iapply (run_step c (grid0.coords t) _ _ _ _ _ _ _ _ _ _ _ _ _ _ _ _ (xB m c t) (wB m c t) _ _ _ _ l a Set.univ _)
    unfold stepPre
    rw [if_neg hl, if_neg hl]
    isplitl [H0 H1 H2 H3 H4 H5 HC HL]
    · isplitl [H0]; · iexact H0
      isplitl [H1]; · iexact H1
      isplitl [H2]; · iexact H2
      isplitl [H3]; · iexact H3
      isplitl [H4]; · iexact H4
      isplitl [H5]; · iexact H5
      isplitl [HL]; · iexact HL
      iexact HC
    iintro ⟨H0, H1, H2, H3, H4, H5, HL, HC⟩
    isplitl [HC HL Hg]
    · isplitl [HC HL]
      · isplitl [HC]; · iexact HC
        iexact HL
      iexact Hg
    isplitl [Ho]; · iexact Ho
    isplitl [H0]; · iexact H0
    isplitl [H1]; · iexact H1
    isplitl [H2]; · iexists _; iexact H2
    isplitl [H3]; · iexact H3
    isplitl [H4]; · iexists _; iexact H4
    iexact H5

/-- The body's definition at a step is the step's program. -/
theorem defs_row (t : Fin cfg0.N) : defs₀ (F := F) .tc cfg0.body (cfg0.bodyArgs t (cfg0.slots t)) = bodyAt0 t := by
  unfold defs₀; rw [Defs.onTc_tc]

/-- The pipeline's obligation on the body, at every step. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-- The launch's buffers are what the first step needs. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- What the last step leaves is what the launch takes back. -/
theorem hout (c : Dev nD) : (dats m 0 c).Φ (Fin.last cfg0.N) ⊢ Pipeline.ΦA spec0 c := by
  have hN : cfg0.N = 32 := N_0
  rw [show (dats m 0 c).Φ (Fin.last cfg0.N) = PhiS m c cfg0.N le_rfl from rfl, PhiS_pos m c _ _ (by omega), PhiA_eq]
  iintro ⟨⟨HC, HL⟩, Hg⟩
  isplitl [HC HL]
  · isplitl [HC]
    · iexists _; iexact HC
    iexists _; iexact HL
  iexact Hg

/-! ## The run -/

set_option backward.isDefEq.respectTransparency.types false in
set_option maxHeartbeats 800000 in
/-- The launch: every fair execution ends, with every array of the pipeline at what the proof data say, every other buffer as
the lines after the region leave it, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The launch's final contents. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: every execution ends with the arguments unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.VQ

end
-- ==== Proof.Frames.lean ====
module

public import proofs.«01_k».proof.Defs
public import proofs.«01_k».proof.Proof.WordRun
public import proofs.«01_k».proof.Proof.Gen.ReferenceIdeal
public import proofs.«01_k».proof.Proof.Run
public import Idealize.ShloMosaic.Lib.Claim
public import Idealize.ShloMosaic.Lib.StableHlo.RunHlo

@[expose] public section

set_option maxRecDepth 16384

noncomputable section

namespace Cert.Frames

open Idealize.ShloMosaic Idealize.SL.Sem

/-- The kernel on words: it ends, its arguments are unchanged, its counters are at zero. -/
theorem kernel : Cert.quiescent_Kernel := fun m g _ => Cert.Kernel.VQ.frame_all (F := Bits) m g

end Cert.Frames

end
-- ==== Proof.Ref.lean ====
module

public import proofs.«01_k».proof.Defs
public import proofs.«01_k».proof.Proof.Gen.ReferenceIdeal
public import Idealize.ShloMosaic.Lib.Claim
public import Idealize.ShloMosaic.Lib.StableHlo.RunHlo

@[expose] public section

set_option maxRecDepth 16384

noncomputable section

namespace Cert.Ref

open Idealize.ShloMosaic Idealize.SL.Sem
open Cert.ReferenceIdeal Cert.ReferenceIdeal.Facts₀ Cert.ReferenceIdeal.Facts

variable (x : FVec Ideal S16384x64 .f32) (w : FVec Ideal S1024x64 .f32)

/-- The squared distances before the cut at zero. -/
def d2 : FVec Ideal S16384x1024 .f32 :=
  addf (subf (broadcastInDim S16384x1024 ![0, 1] bcast_S16384x1_S16384x1024_0_1
        (broadcastInDim S16384x1 ![0] bcast_S16384_S16384x1_0
          (Host.reduceAdd (mulf x x) (constant S_ .f32 0x00000000#32) reducesTo_S16384x64_S16384_d1 h_S_)))
      (mulf (broadcastInDim S16384x1024 ![] bcast_S_S16384x1024 (constant S_ .f32 0x40000000#32))
        (Host.dotGeneral dot_S16384x64_S64x1024_S16384x1024_1_0_0_1_n_n none x
          (transpose S64x1024 [1, 0] w transposes_S1024x64_S64x1024_1_0))))
    (broadcastInDim S16384x1024 ![0, 1] bcast_S1x1024_S16384x1024_0_1
      (broadcastInDim S1x1024 ![1] bcast_S1024_S1x1024_1
        (Host.reduceAdd (mulf w w) (constant S_ .f32 0x00000000#32) reducesTo_S1024x64_S1024_d1 h_S_)))

/-- The distances. -/
def dist : FVec Ideal S16384x1024 .f32 :=
  Host.sqrt (maximumf (d2 x w) (broadcastInDim S16384x1024 ![] bcast_S_S16384x1024 (constant S_ .f32 0x00000000#32)))

/-- The index of each row's first least entry. -/
def argmin (d : FVec Ideal S16384x1024 .f32) : IVec S16384 32 := fun j =>
  (Host.argReduce reducer_argmin_f32_i32 d (iotaInDim S16384x1024 32 1) (constant S_ .f32 0x7F800000#32) (constantI S_ 32 0#32)
    reducesTo_S16384x1024_S16384_d1 h_S_ j).2

/-- The rows' indices as rows of zeros and ones. -/
def oneHot (k : IVec S16384 32) : FVec Ideal S16384x1024 .f32 :=
  uitofp .f32 (cmpi .eq (broadcastInDim S16384x1024 ![0, 1] bcast_S16384x1_S16384x1024_0_1 (broadcastInDim S16384x1 ![0] bcast_S16384_S16384x1_0 k))
    (broadcastInDim S16384x1024 ![0, 1] bcast_S1x1024_S16384x1024_0_1 (iotaInDim S1x1024 32 1)))

/-- The encodings: the reference's fourth result. -/
def enc : FVec Ideal S16384x1024 .f32 := oneHot (argmin (dist x w))

/-- The codebook rows that the encodings pick. -/
def quant (e : FVec Ideal S16384x1024 .f32) : FVec Ideal S16384x64 .f32 :=
  Host.dotGeneral dot_S16384x1024_S1024x64_S16384x64_1_0_0_1_n_n none e w

/-- The loss of encodings: the reference's first result. -/
def loss (e : FVec Ideal S16384x1024 .f32) : FVec Ideal S_ .f32 :=
  mulf (constant S_ .f32 0x3E800000#32)
    (Host.divf (Host.reduceAdd (mulf (subf (quant w e) x) (subf (quant w e) x)) (constant S_ .f32 0x00000000#32) reducesTo_S16384x64_S_d0_1 h_S_)
      (constant S_ .f32 0x49800000#32))

/-- The picked rows, written as the input and a difference: the reference's second result. -/
def qst (e : FVec Ideal S16384x1024 .f32) : FVec Ideal S16384x64 .f32 := addf x (subf (quant w e) x)

/-- The mean encoding. -/
def avg (e : FVec Ideal S16384x1024 .f32) : FVec Ideal S1024 .f32 :=
  Host.divf (Host.reduceAdd e (constant S_ .f32 0x00000000#32) reducesTo_S16384x1024_S1024_d0 h_S_)
    (broadcastInDim S1024 ![] bcast_S_S1024 (constant S_ .f32 0x46800000#32))

/-- The perplexity of a mean encoding: the reference's third result. -/
def perp (a : FVec Ideal S1024 .f32) : FVec Ideal S_ .f32 :=
  Host.exp (Host.negf (Host.reduceAdd
    (mulf a (Host.log (addf a (broadcastInDim S1024 ![] bcast_S_S1024 (constant S_ .f32 0x2EDBE6FF#32)))))
    (constant S_ .f32 0x00000000#32) reducesTo_S1024_S_d0 h_S_))

/-- `argmin` spelt out. -/
theorem argmin_eq (d : FVec Ideal S16384x1024 .f32) : argmin d = fun j =>
    (Host.argReduce reducer_argmin_f32_i32 d (iotaInDim S16384x1024 32 1) (constant S_ .f32 0x7F800000#32) (constantI S_ 32 0#32)
      reducesTo_S16384x1024_S16384_d1 h_S_ j).2 := rfl

/-- Reading the distances' buffer at its type changes nothing. -/
theorem read_dist (h₁ h₂ h₃) (v : FVec Ideal S16384x1024 .f32) :
    (StableHlo.TRef.of (T := ⟨S16384x1024, .f32⟩) main_v16 h₁ h₂ h₃).ofBuf (Val := Elt Ideal) v = v := rfl

/-- Writing the encodings' buffer at its type changes nothing. -/
theorem write_enc (h₁ h₂ h₃) (v : FVec Ideal S16384x1024 .f32) :
    (StableHlo.TRef.of (T := ⟨S16384x1024, .f32⟩) main_v18 h₁ h₂ h₃).toBuf (Val := Elt Ideal) v = v := rfl

/-- The reference's run: its four results are the functions above of its arguments, which it leaves unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v24) = loss (m ((c.tc : Thread nD τ).loc main_arg0)) (m ((c.tc : Thread nD τ).loc main_arg1)) (enc (m ((c.tc : Thread nD τ).loc main_arg0)) (m ((c.tc : Thread nD τ).loc main_arg1)))
      ∧ r.2.mem ((c.tc : Thread nD τ).loc main_v26) = qst (m ((c.tc : Thread nD τ).loc main_arg0)) (m ((c.tc : Thread nD τ).loc main_arg1)) (enc (m ((c.tc : Thread nD τ).loc main_arg0)) (m ((c.tc : Thread nD τ).loc main_arg1)))
      ∧ r.2.mem ((c.tc : Thread nD τ).loc main_v36) = perp (avg (enc (m ((c.tc : Thread nD τ).loc main_arg0)) (m ((c.tc : Thread nD τ).loc main_arg1))))
      ∧ r.2.mem ((c.tc : Thread nD τ).loc main_v18) = enc (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  all_goals
    simp -implicitDefEqProofs only [StableHlo.TRef.ofBuf_toBuf, read_dist, write_enc, loss, qst, perp, avg, quant, enc, oneHot, argmin_eq, dist, d2]

/-- The reference ends with its arguments unchanged and its counters at zero. -/
theorem frame : Cert.quiescent_ReferenceIdeal := fun m g _ =>
  (θ_run (defs (F := Ideal)) _ _).mono (fun r h => ⟨fun c => (h c).2.2.2.2, sem_eq_zero_of_no_sems (by decide) r.2⟩) (run m g)

end Cert.Ref

end
-- ==== Proof.Spec.lean ====
module

public import Idealize.ShloMosaic.PureOps.Ideal.Laws
public import Idealize.ShloMosaic.Lib.SortNet.Extract

@[expose] public section

noncomputable section

namespace Cert.Spec

open Idealize.ShloMosaic

/-! ## The first least entry of a row -/

/-- `k` is the index of the first least entry of `f`. -/
def IsFirst (f : Fin 1024 → EReal) (k : Fin 1024) : Prop := (∀ l, f k ≤ f l) ∧ ∀ l, f l ≤ f k → k ≤ l

/-- Every row has a first least entry. -/
theorem exists_first (f : Fin 1024 → EReal) : ∃ k, IsFirst f k := by
  obtain ⟨a, ha⟩ := Finite.exists_min f
  have hs : (Finset.univ.filter fun l => f l ≤ f a).Nonempty := ⟨a, by simp⟩
  obtain ⟨k, hk, hmin⟩ := Finset.exists_min_image _ (fun l : Fin 1024 => l) hs
  simp only [Finset.mem_filter, Finset.mem_univ, true_and] at hk hmin
  exact ⟨k, fun l => hk.trans (ha l), fun l hl => hmin l (hl.trans hk)⟩

/-- It has only one. -/
theorem IsFirst.unique {f : Fin 1024 → EReal} {k l : Fin 1024} (hk : IsFirst f k) (hl : IsFirst f l) : k = l :=
  le_antisymm (hk.2 l (hl.1 k)) (hl.2 k (hk.1 l))

/-- The index of the first least entry of a row. -/
def first (f : Fin 1024 → EReal) : Fin 1024 := (exists_first f).choose

/-- `first f` is a first least entry. -/
theorem first_spec (f : Fin 1024 → EReal) : IsFirst f (first f) := (exists_first f).choose_spec

/-- A first least entry is `first f`. -/
theorem first_eq {f : Fin 1024 → EReal} {k : Fin 1024} (h : IsFirst f k) : first f = k := (first_spec f).unique h

/-- No entry is below the first least one. -/
theorem first_le (f : Fin 1024 → EReal) (l : Fin 1024) : f (first f) ≤ f l := (first_spec f).1 l

/-- The fold of `min` from `⊤` over a row is its least entry. -/
theorem fold_min (f : Fin 1024 → EReal) : Finset.univ.fold min ⊤ f = f (first f) := by
  apply le_antisymm
  · exact (Finset.fold_min_le _).mpr (Or.inr ⟨first f, Finset.mem_univ _, le_rfl⟩)
  · exact (Finset.le_fold_min _).mpr ⟨le_top, fun l _ => first_le f l⟩

/-! ## Words that hold a column's number -/

/-- A column's word reads as the column. -/
theorem toInt_word (k : Fin 1024) : (BitVec.ofNat 32 k.val).toInt = (k.val : ℤ) := by
  have := k.isLt
  rw [BitVec.toInt_eq_toNat_cond, BitVec.toNat_ofNat]
  have h : k.val % 2 ^ 32 = k.val := Nat.mod_eq_of_lt (by omega)
  rw [h, if_pos (by omega)]

/-- Different columns have different words. -/
theorem word_inj {k l : Fin 1024} (h : BitVec.ofNat 32 k.val = BitVec.ofNat 32 l.val) : k = l := by
  have := congrArg BitVec.toInt h
  rw [toInt_word, toInt_word] at this
  exact Fin.ext (by exact_mod_cast this)

/-- No column's word is the width's. -/
theorem word_ne_width (k : Fin 1024) : BitVec.ofNat 32 k.val ≠ 1024#32 := by
  intro h
  have := congrArg BitVec.toInt h
  rw [toInt_word, show (1024#32 : BitVec 32).toInt = 1024 from by decide] at this
  have := k.isLt
  omega

/-- The least column number among a row's least entries, columns elsewhere counting as 1024, is the first least entry's. -/
theorem fold_minsi (f : Fin 1024 → EReal) :
    Finset.univ.fold IntOp.minsi 2147483647#32 (fun k : Fin 1024 => if f k = f (first f) then BitVec.ofNat 32 k.val else 1024#32)
      = BitVec.ofNat 32 (first f).val := by
  apply BitVec.eq_of_toInt_eq
  rw [toInt_word, ← Finset.fold_hom (op' := min) (m := BitVec.toInt) (fun a b => SortNet.toInt_minsi a b)]
  apply le_antisymm
  · refine (Finset.fold_min_le _).mpr (Or.inr ⟨first f, Finset.mem_univ _, ?_⟩)
    rw [if_pos rfl, toInt_word]
  · refine (Finset.le_fold_min _).mpr ⟨?_, fun l _ => ?_⟩
    · rw [show (2147483647#32 : BitVec 32).toInt = 2147483647 from by decide]
      have := (first f).isLt
      omega
    · split_ifs with h
      · rw [toInt_word]
        exact_mod_cast (first_spec f).2 l h.le
      · rw [show (1024#32 : BitVec 32).toInt = 1024 from by decide]
        have := (first f).isLt
        omega

/-- The row of zeros with a one at the first least entry. -/
def hot (f : Fin 1024 → EReal) (k : Fin 1024) : EReal := if k = first f then 1 else 0

/-- The marks that the slow branch makes are that row. -/
theorem mark_iff (f : Fin 1024 → EReal) (k : Fin 1024) :
    (if f k = f (first f) then BitVec.ofNat 32 k.val else 1024#32) = BitVec.ofNat 32 (first f).val ↔ k = first f := by
  constructor
  · intro h
    split_ifs at h with h'
    · exact word_inj h
    · exact absurd h.symm (word_ne_width _)
  · rintro rfl; rw [if_pos rfl]

/-! ## A fold over pairs of a value and a column's number -/

/-- The order of pairs: by value, and by column among equal values. -/
def Le (a b : EReal × BitVec 32) : Prop := a.1 < b.1 ∨ (a.1 = b.1 ∧ a.2.toInt ≤ b.2.toInt)

/-- The order on pairs is reflexive. -/
theorem Le.refl (a : EReal × BitVec 32) : Le a a := Or.inr ⟨rfl, le_rfl⟩

/-- The order on pairs is transitive. -/
theorem Le.trans {a b c : EReal × BitVec 32} (h : Le a b) (h' : Le b c) : Le a c := by
  rcases h with h | ⟨h, i⟩ <;> rcases h' with h' | ⟨h', i'⟩
  · exact Or.inl (h.trans h')
  · exact Or.inl (h.trans_eq h')
  · exact Or.inl (h.trans_lt h')
  · exact Or.inr ⟨h.trans h', i.trans i'⟩

/-- A fold by an operation that returns one of its two operands, below both, returns the start or an entry, below the start and
every entry. -/
theorem foldl_least (op : EReal × BitVec 32 → EReal × BitVec 32 → EReal × BitVec 32)
    (hmem : ∀ a b, op a b = a ∨ op a b = b) (hl : ∀ a b, Le (op a b) a) (hr : ∀ a b, Le (op a b) b)
    (L : List (EReal × BitVec 32)) : ∀ s, (L.foldl op s = s ∨ L.foldl op s ∈ L) ∧ Le (L.foldl op s) s ∧ ∀ p ∈ L, Le (L.foldl op s) p := by
  induction L with
  | nil => intro s; exact ⟨Or.inl rfl, Le.refl _, fun p hp => absurd hp (by simp)⟩
  | cons b L ih =>
    intro s
    obtain ⟨h1, h2, h3⟩ := ih (op s b)
    rw [List.foldl_cons]
    refine ⟨?_, h2.trans (hl s b), ?_⟩
    · rcases h1 with h1 | h1
      · rcases hmem s b with h | h
        · exact Or.inl (h1.trans h)
        · exact Or.inr (by rw [h1, h]; exact List.mem_cons_self)
      · exact Or.inr (List.mem_cons_of_mem _ h1)
    · intro p hp
      rcases List.mem_cons.mp hp with rfl | hp
      · exact h2.trans (hr s p)
      · exact h3 p hp

/-- Such a fold from `(⊤, 0)` over a row's pairs ends at the row's first least column. -/
theorem foldl_first (op : EReal × BitVec 32 → EReal × BitVec 32 → EReal × BitVec 32)
    (hmem : ∀ a b, op a b = a ∨ op a b = b) (hl : ∀ a b, Le (op a b) a) (hr : ∀ a b, Le (op a b) b)
    (L : List (EReal × BitVec 32)) (f : Fin 1024 → EReal)
    (hL : ∀ p, p ∈ L ↔ ∃ k : Fin 1024, p = (f k, BitVec.ofNat 32 k.val)) :
    (L.foldl op (⊤, 0#32)).2 = BitVec.ofNat 32 (first f).val := by
  obtain ⟨h1, -, h3⟩ := foldl_least op hmem hl hr L (⊤, 0#32)
  have key : ∀ k : Fin 1024, L.foldl op (⊤, 0#32) = (f k, BitVec.ofNat 32 k.val) → (L.foldl op (⊤, 0#32)).2 = BitVec.ofNat 32 (first f).val := by
    intro k hk
    rw [hk]
    have h : IsFirst f k := by
      refine ⟨fun l => ?_, fun l hl' => ?_⟩
      · have := h3 _ ((hL _).mpr ⟨l, rfl⟩)
        rw [hk] at this
        rcases this with h | ⟨h, -⟩
        · exact h.le
        · exact h.le
      · have := h3 _ ((hL _).mpr ⟨l, rfl⟩)
        rw [hk] at this
        rcases this with h | ⟨-, h⟩
        · exact absurd hl' (not_le.mpr h)
        · rw [toInt_word, toInt_word] at h
          exact_mod_cast h
    rw [first_eq h]
  rcases h1 with h1 | h1
  · apply key 0
    rw [h1]
    have := h3 _ ((hL _).mpr ⟨0, rfl⟩)
    rw [h1] at this
    rcases this with h | ⟨h, -⟩
    · exact absurd h not_top_lt
    · exact Prod.ext h rfl
  · obtain ⟨k, hk⟩ := (hL _).mp h1
    exact key k hk

/-! ## From squared distances to distances -/

/-- The square root of a real that is not negative. -/
theorem sqrt_coe {a : ℝ} (h : 0 ≤ a) : Ideal.sqrt (a : EReal) = (Real.sqrt a : EReal) :=
  (show Ideal.sqrt (a : EReal) = if a < 0 then ⊥ else (Real.sqrt a : EReal) from rfl).trans (if_neg (not_lt.mpr h))

/-- The square root is strictly monotone from zero on. -/
theorem sqrt_lt {a b : EReal} (ha : 0 ≤ a) (h : a < b) : Ideal.sqrt a < Ideal.sqrt b := by
  induction a with
  | bot => simp at ha
  | top => simp at h
  | coe a =>
    have ha' : 0 ≤ a := by exact_mod_cast ha
    induction b with
    | bot => simp at h
    | top => rw [sqrt_coe ha']; exact EReal.coe_lt_top _
    | coe b =>
      have hab : a < b := by exact_mod_cast h
      rw [sqrt_coe ha', sqrt_coe (ha'.trans hab.le)]
      exact_mod_cast Real.sqrt_lt_sqrt ha' hab

/-- The distances of a row of squared distances. -/
def dst (f : Fin 1024 → EReal) (k : Fin 1024) : EReal := Ideal.sqrt (max (f k) 0)

/-- The bound under which the fast branch marks an entry. -/
def thr (c : EReal) (f : Fin 1024 → EReal) : EReal := if 0 < f (first f) then f (first f) + f (first f) * c else 0

/-- The least entry is marked. -/
theorem first_le_thr {c : EReal} (hc : 0 ≤ c) (f : Fin 1024 → EReal) : f (first f) ≤ thr c f := by
  unfold thr
  split_ifs with h
  · exact le_add_of_nonneg_right (mul_nonneg h.le hc)
  · exact not_lt.mp h

/-- If no other entry is marked, it is the first least distance's. -/
theorem first_dst {c : EReal} (hc : 0 ≤ c) (f : Fin 1024 → EReal) (h : ∀ l, f l ≤ thr c f → l = first f) : first (dst f) = first f := by
  have hlt : ∀ l, l ≠ first f → dst f (first f) < dst f l := by
    intro l hl
    have h1 : thr c f < f l := lt_of_not_ge fun hn => hl (h l hn)
    refine sqrt_lt (le_max_right _ _) ?_
    unfold thr at h1
    split_ifs at h1 with h0
    · rw [max_eq_left h0.le]
      exact lt_max_of_lt_left (lt_of_le_of_lt (le_add_of_nonneg_right (mul_nonneg h0.le hc)) h1)
    · rw [max_eq_right (not_lt.mp h0)]
      exact lt_max_of_lt_left h1
  apply first_eq
  refine ⟨fun l => ?_, fun l hl => ?_⟩
  · by_cases e : l = first f
    · rw [e]
    · exact (hlt l e).le
  · by_cases e : l = first f
    · exact e.ge
    · exact absurd hl (not_le.mpr (hlt l e))

/-- The fast branch's marks. -/
def mark (c : EReal) (f : Fin 1024 → EReal) (k : Fin 1024) : EReal := if f k ≤ thr c f then 1 else 0

/-- If the marks of a block's 512 rows come to 512, each row has one mark, at its first least distance. -/
theorem mark_eq_hot {c : EReal} (hc : 0 ≤ c) (f : Fin 512 → Fin 1024 → EReal) (h : ∑ k, ∑ r, mark c (f r) k = 512)
    (r : Fin 512) (k : Fin 1024) : mark c (f r) k = hot (dst (f r)) k := by
  classical
  set n : Fin 512 → ℕ := fun r => (Finset.univ.filter fun k => f r k ≤ thr c (f r)).card with hn
  have hrow : ∀ r, ∑ k, mark c (f r) k = (n r : EReal) := by
    intro r
    simp only [mark, hn, Finset.sum_boole]
  have hsum : ((∑ r, n r : ℕ) : EReal) = ((512 : ℕ) : EReal) := by
    rw [Nat.cast_sum, ← Finset.sum_congr rfl fun r _ => hrow r, Finset.sum_comm, h]; rfl
  have hsum' : ∑ r, n r = ∑ _r : Fin 512, 1 := by
    rw [EReal.natCast_eq_iff.mp hsum]; simp
  have hone : ∀ r, 1 ≤ n r := fun r => Finset.card_pos.mpr ⟨first (f r), by simp [first_le_thr hc]⟩
  have heq : n r = 1 := ((Finset.sum_eq_sum_iff_of_le fun r _ => hone r).mp hsum'.symm r (Finset.mem_univ r)).symm
  obtain ⟨a, ha⟩ := Finset.card_eq_one.mp heq
  have hmem : ∀ l, f r l ≤ thr c (f r) ↔ l = a := fun l => by
    have := Finset.ext_iff.mp ha l
    simpa using this
  have hf : first (f r) = a := (hmem _).mp (first_le_thr hc (f r))
  have hd : first (dst (f r)) = first (f r) := first_dst hc _ fun l hl => by rw [(hmem l).mp hl, hf]
  unfold mark hot
  rw [hd, hf]
  exact if_congr (hmem k) rfl rfl

end Cert.Spec

end
-- ==== Proof.Block.lean ====
module

public import proofs.«01_k».proof.Proof.Body
public import proofs.«01_k».proof.Proof.Spec
public import Idealize.ShloMosaic.Lib.Pointwise

@[expose] public section

set_option maxRecDepth 16384

noncomputable section

namespace Cert.Block

open Idealize.ShloMosaic Idealize.ShloMosaic.TcCoe Idealize.SL.Sem
open Cert.KernelIdeal Cert.KernelIdeal.Gen Cert.KernelIdeal.VQ Cert.Spec

/-! ## Real values -/

/-- An extended real that is a real. -/
def IsReal (v : EReal) : Prop := ∃ a : ℝ, v = (a : EReal)

/-- The sum of two reals is a real. -/
theorem IsReal.add {u v : EReal} (hu : IsReal u) (hv : IsReal v) : IsReal (u + v) := by
  obtain ⟨a, rfl⟩ := hu; obtain ⟨b, rfl⟩ := hv; exact ⟨a + b, (EReal.coe_add a b).symm⟩
/-- The difference of two reals is a real. -/
theorem IsReal.sub {u v : EReal} (hu : IsReal u) (hv : IsReal v) : IsReal (u - v) := by
  obtain ⟨a, rfl⟩ := hu; obtain ⟨b, rfl⟩ := hv; exact ⟨a - b, (EReal.coe_sub a b).symm⟩
/-- The product of two reals is a real. -/
theorem IsReal.mul {u v : EReal} (hu : IsReal u) (hv : IsReal v) : IsReal (u * v) := by
  obtain ⟨a, rfl⟩ := hu; obtain ⟨b, rfl⟩ := hv; exact ⟨a * b, (EReal.coe_mul a b).symm⟩
/-- Zero is a real. -/
theorem IsReal.zero : IsReal 0 := ⟨0, EReal.coe_zero.symm⟩
/-- One is a real. -/
theorem IsReal.one : IsReal 1 := ⟨1, EReal.coe_one.symm⟩
/-- A finite sum of reals is a real. -/
theorem IsReal.sum {n : ℕ} {f : Fin n → EReal} (h : ∀ i, IsReal (f i)) : IsReal (∑ i, f i) :=
  Finset.sum_induction f IsReal (fun _ _ => IsReal.add) IsReal.zero fun i _ => h i

/-- A real added and then taken off again changes nothing. -/
theorem correct {p : EReal} (hp : IsReal p) (l n : EReal) : l + p + (n - p) = l + n := by
  obtain ⟨a, rfl⟩ := hp
  have h : (a : EReal) + (n - a) = n := by
    rw [sub_eq_add_neg, add_left_comm, ← sub_eq_add_neg, EReal.sub_self (EReal.coe_ne_top a) (EReal.coe_ne_bot a), add_zero]
  rw [add_assoc, h]

/-! ## The literals -/

/-- The relative slack of the fast branch's bound. -/
abbrev slack : EReal := Ideal.ofBits .f32 0x358637BD#32

/-- The tolerance is not negative. -/
theorem slack_nonneg : 0 ≤ slack := by
  simp [slack, Ideal.ofBits, Ideal.ieee, -EReal.coe_mul]
  try norm_num
  try positivity

/-- This word reads plus infinity. -/
theorem ofBits_top : Ideal.ofBits .f32 0x7F800000#32 = ⊤ := by simp [Ideal.ofBits, Ideal.ieee]

/-- This word reads 512. -/
theorem ofBits_512 : Ideal.ofBits .f32 0x44000000#32 = 512 := by
  simp [Ideal.ofBits, Ideal.ieee, -EReal.coe_mul]
  norm_num
  rfl

/-- A condition's bit, widened to a word and converted, is one or zero. -/
theorem convert_bit (b : Bool) : (FloatOps.sitofp .f32 (BitVec.setWidth 32 (BitVec.ofBool b)) : Ideal .f32) = if b = true then (1 : EReal) else 0 := by
  cases b <;> simp [FloatOps.sitofp]

/-! ## One block at an index -/

variable (x : FVec Ideal S512x64 .f32) (w : FVec Ideal S1024x64 .f32) (d : FVec Ideal S512x1024 .f32)

/-- A row of the block's squared distances. -/
def row (r : Fin 512) (k : Fin 1024) : EReal := d (ix2 r k)

/-- A squared distance. -/
theorem d2_at (r : Fin 512) (k : Fin 1024) : k0_pay13 (F := Ideal) x w (ix2 r k)
    = (∑ j : Fin 64, x (ix2 r j) * x (ix2 r j)) - Ideal.ofBits .f32 0x40000000#32 * (∑ j : Fin 64, x (ix2 r j) * w (ix2 k j))
      + ∑ j : Fin 64, w (ix2 k j) * w (ix2 k j) := by
  pointwise [k0_pay13]

/-- The fast branch's marks. -/
theorem mask_at (r : Fin 512) (k : Fin 1024) : k0_pay14 (F := Ideal) x w (ix2 r k) = mark slack (row (k0_pay13 x w) r) k := by
  pointwise [k0_pay14]
  rw [convert_bit, ofBits_top, fold_min (fun l => k0_pay13 (F := Ideal) x w (ix2 r l))]
  simp only [decide_eq_true_eq]
  rfl

/-- The slow branch's marks. -/
theorem exact_at (r : Fin 512) (k : Fin 1024) : k0_pay8 (F := Ideal) d (ix2 r k) = hot (dst (row d r)) k := by
  pointwise [k0_pay8]
  rw [ofBits_top, fold_min (fun l => Ideal.sqrt (max (d (ix2 r l)) 0))]
  rw [fold_minsi (fun l => Ideal.sqrt (max (d (ix2 r l)) 0))]
  rw [show ∀ a b : BitVec 32, IntOp.cmpi .eq a b = BitVec.ofBool (decide (a = b)) from fun a b => by simp [IntOp.cmpi, beq_eq_decide], convert_bit]
  simp only [decide_eq_true_eq]
  exact if_congr (mark_iff (fun l => Ideal.sqrt (max (d (ix2 r l)) 0)) k) rfl rfl

/-- The fast branch's column sums. -/
theorem pcnt_at (k : Fin 1024) : k0_pay15 (F := Ideal) x w (ix1 k) = ∑ r, mark slack (row (k0_pay13 x w) r) k := by
  pointwise [k0_pay15, mask_at]

/-- Their total. -/
theorem total_eq : k0_pay16 (F := Ideal) x w = ∑ k, ∑ r, mark slack (row (k0_pay13 x w) r) k := by
  pointwise [k0_pay16, pcnt_at]

/-- The slow branch is taken exactly when the marks do not come to the number of rows. -/
theorem isSlow_iff : isSlow (F := Ideal) x w ↔ ∑ k, ∑ r, mark slack (row (k0_pay13 x w) r) k ≠ 512 := by
  unfold isSlow
  rw [total_eq, show (FloatOps.ofBits .f32 0x44000000#32 : Ideal .f32) = (512 : EReal) from ofBits_512]
  generalize ∑ k, ∑ r, mark slack (row (k0_pay13 x w) r) k = v
  show Scalar.cmpi .ne (Scalar.extui (Ideal.cmp .one v 512)) 0#32 = 1#1 ↔ v ≠ 512
  by_cases h : v = 512 <;> simp [Ideal.cmp, Scalar.extui, Scalar.cmpi, IntOp.cmpi, h]

/-- The encoding of a row of the block. -/
def code (r : Fin 512) (k : Fin 1024) : EReal := hot (dst (row (k0_pay13 (F := Ideal) x w) r)) k

/-- Where the slow branch is not taken the marks are the encoding. -/
theorem mask_fast (h : ¬isSlow (F := Ideal) x w) (r : Fin 512) (k : Fin 1024) : k0_pay14 (F := Ideal) x w (ix2 r k) = code x w r k := by
  rw [mask_at]
  exact mark_eq_hot slack_nonneg _ (not_not.mp fun n => h ((isSlow_iff x w).mpr n)) r k

/-- The block of the encodings. -/
theorem encB_at (r : Fin 512) (k : Fin 1024) : encB (F := Ideal) x w (ix2 r k) = code x w r k := by
  unfold encB
  split_ifs with h
  · exact exact_at _ r k
  · exact mask_fast x w h r k

/-- A codebook row that the encoding picks. -/
def pick (r : Fin 512) (j : Fin 64) : EReal := ∑ k, code x w r k * w (ix2 k j)

/-- The slow branch's picked row. -/
theorem q_slow (r : Fin 512) (j : Fin 64) : k0_pay9 (F := Ideal) w (k0_pay13 x w) (ix2 r j) = pick x w r j := by
  pointwise [k0_pay9, exact_at]; rfl

/-- Where the quick branch suffices, its picked row is the exact one. -/
theorem q_fast (h : ¬isSlow (F := Ideal) x w) (r : Fin 512) (j : Fin 64) : k0_pay17 (F := Ideal) x w (ix2 r j) = pick x w r j := by
  pointwise [k0_pay17]
  exact Finset.sum_congr rfl fun k _ => by rw [mask_fast x w h]

/-- The block of the picked rows. -/
theorem qstB_at (r : Fin 512) (j : Fin 64) : qstB (F := Ideal) x w (ix2 r j) = x (ix2 r j) + (pick x w r j - x (ix2 r j)) := by
  unfold qstB
  split_ifs with h
  · pointwise [k0_pay10, q_slow]
  · pointwise [k0_pay18, q_fast x w h]

/-- The sum of the block's squared differences. -/
def blockLoss : EReal := ∑ r, ∑ j, (pick x w r j - x (ix2 r j)) * (pick x w r j - x (ix2 r j))

/-- The sum of squared differences of any picked rows. -/
theorem part_eq (q : FVec Ideal S512x64 .f32) : k0_pay1 (F := Ideal) x q
    = ∑ r : Fin 512, ∑ j : Fin 64, (q (ix2 r j) - x (ix2 r j)) * (q (ix2 r j) - x (ix2 r j)) := by
  pointwise [k0_pay1]

/-- A mark is a real. -/
theorem mark_real (r : Fin 512) (k : Fin 1024) : IsReal (mark slack (row (k0_pay13 (F := Ideal) x w) r) k) := by
  unfold mark; split_ifs
  · exact IsReal.one
  · exact IsReal.zero

/-- The quick sum of squares is a real when the inputs are. -/
theorem quick_real (hx : ∀ i, IsReal (x i)) (hw : ∀ i, IsReal (w i)) : IsReal (k0_pay1 (F := Ideal) x (k0_pay17 x w)) := by
  rw [part_eq]
  refine IsReal.sum fun r => IsReal.sum fun j => ?_
  have hq : IsReal (k0_pay17 (F := Ideal) x w (ix2 r j)) := by
    pointwise [k0_pay17, mask_at]
    exact IsReal.sum fun k => (mark_real x w r k).mul (hw _)
  exact (hq.sub (hx _)).mul (hq.sub (hx _))

/-- A step adds the block's loss to the running loss. -/
theorem lossB_eq (hx : ∀ i, IsReal (x i)) (hw : ∀ i, IsReal (w i)) (l : EReal) : lossB (F := Ideal) x w l = l + blockLoss x w := by
  unfold lossB
  split_ifs with h
  · refine Eq.trans ?_ (correct (quick_real x w hx hw) l (blockLoss x w))
    pointwise [k0_pay11, k0_pay3, q_slow]
    rfl
  · pointwise [k0_pay3]
    rw [part_eq]
    simp only [q_fast x w h]
    rfl

/-- A step adds the block's encodings to the running counts. -/
theorem cntB_at (a : FVec Ideal S1x1024 .f32) (k : Fin 1024) : cntB (F := Ideal) x w a (ix2 0 k) = a (ix2 0 k) + ∑ r, code x w r k := by
  have hp : IsReal (k0_pay15 (F := Ideal) x w (ix1 k)) := by
    rw [pcnt_at]; exact IsReal.sum fun r => mark_real x w r k
  unfold cntB
  split_ifs with h
  · refine Eq.trans ?_ (correct hp (a (ix2 0 k)) (∑ r, code x w r k))
    pointwise [k0_pay5, k0_pay12, k0_pay4, exact_at]
    rfl
  · pointwise [k0_pay4, k0_pay15]
    simp only [mask_fast x w h]

end Cert.Block

end
-- ==== Proof.RefAt.lean ====
module

public import proofs.«01_k».proof.Proof.Ref
public import proofs.«01_k».proof.Proof.Spec
public import Idealize.ShloMosaic.Lib.Pointwise

@[expose] public section

set_option maxRecDepth 16384

noncomputable section

namespace Cert.Ref

open Idealize.ShloMosaic Idealize.SL.Sem
open Cert.ReferenceIdeal Cert.ReferenceIdeal.Facts₀ Cert.ReferenceIdeal.Facts Cert.Spec

variable (x : FVec Ideal S16384x64 .f32) (w : FVec Ideal S1024x64 .f32) (e : FVec Ideal S16384x1024 .f32)

/-- A squared distance. -/
theorem d2_at (r : Fin 16384) (k : Fin 1024) : d2 x w (ix2 r k)
    = (∑ j : Fin 64, x (ix2 r j) * x (ix2 r j)) - Ideal.ofBits .f32 0x40000000#32 * (∑ j : Fin 64, x (ix2 r j) * w (ix2 k j))
      + ∑ j : Fin 64, w (ix2 k j) * w (ix2 k j) := by
  pointwise [d2]

/-- A distance. -/
theorem dist_at (r : Fin 16384) (k : Fin 1024) : dist x w (ix2 r k) = dst (fun l => d2 x w (ix2 r l)) k := by
  pointwise [dist]
  rfl

/-- One encoding, from the row's column number. -/
theorem oneHot_at (i : IVec S16384 32) (r : Fin 16384) (k : Fin 1024) :
    oneHot i (ix2 r k) = if i (ix1 r) = BitVec.ofNat 32 k.val then (1 : EReal) else 0 := by
  pointwise [oneHot]
  by_cases h : i (ix1 r) = BitVec.ofNat 32 k.val <;> simp [IntOp.cmpi, FloatOps.uitofp, h]

/-- Which row an entry belongs to. -/
theorem drop_at (i : S16384x1024.Idx) :
    (reducesTo_S16384x1024_S16384_d1 : S16384x1024.ReducesTo [1] S16384).drop i = ix1 (i 0 : Fin 16384) := by
  funext b
  fin_cases b
  rfl

/-- The comparison bit for "less than". -/
theorem lt_bit (u v : EReal) : (FloatOps.cmpf (F := Ideal) (φ := .f32) .olt u v : BitVec 1) = BitVec.ofBool (decide (u < v)) := rfl

/-- The comparison bit for "equal". -/
theorem eq_bit (u v : EReal) : (FloatOps.cmpf (F := Ideal) (φ := .f32) .oeq u v : BitVec 1) = BitVec.ofBool (decide (u = v)) := rfl

/-- The comparison bit for "not equal". -/
theorem ne_bit (u v : EReal) : (FloatOps.cmpf (F := Ideal) (φ := .f32) .une u v : BitVec 1) = BitVec.ofBool (decide (u ≠ v)) := rfl

/-- The reduction's step on pairs of a value and a column. -/
theorem reducer_eq (a b : EReal × BitVec 32) : reducer_argmin_f32_i32 (F := Ideal) a b
    = if a.1 < b.1 ∨ (a.1 = b.1 ∧ a.2.toInt < b.2.toInt) then a else b := by
  obtain ⟨u, i⟩ := a; obtain ⟨v, l⟩ := b
  unfold reducer_argmin_f32_i32
  simp only [lt_bit, eq_bit, ne_bit]
  rcases lt_trichotomy u v with h | h | h
  · simp [Scalar.select, IntOp.ori, IntOp.andi, IntOp.cmpi, h, h.ne]
  · subst h
    by_cases h'' : i.toInt < l.toInt
    · simp [Scalar.select, IntOp.ori, IntOp.andi, IntOp.cmpi, BitVec.slt, h'']
    · simp [Scalar.select, IntOp.ori, IntOp.andi, IntOp.cmpi, BitVec.slt, h'']
  · simp [Scalar.select, IntOp.ori, IntOp.andi, IntOp.cmpi, not_lt_of_gt h, h.ne']

/-- A reduction by that step, over entries `c k` numbered by `k`, returns the first least entry's number. -/
theorem reduce_first {s t u : Shape} {axes : List (Fin s.rank)} (d : FVec Ideal s .f32) (y : IVec s 32) (ix : FVec Ideal u .f32) (iy : IVec u 32)
    (h : s.ReducesTo axes t) (hu : 0 < u.numel) (j : t.Idx) (c : Fin 1024 → s.Idx) (hc : ∀ i, h.drop i = j ↔ ∃ k, i = c k)
    (hx : ix (Shape.Idx.first hu) = (⊤ : EReal)) (hy : iy (Shape.Idx.first hu) = 0#32) (hk : ∀ k, y (c k) = BitVec.ofNat 32 k.val) :
    (Host.argReduce reducer_argmin_f32_i32 d y ix iy h hu j).2 = BitVec.ofNat 32 (first fun k => (d (c k) : EReal)).val := by
  rw [Idealize.ShloMosaic.Ideal.argReduce_eq_reduce2, Host.reduce2_eq_foldl_fiber, hx, hy]
  refine foldl_first _ (fun a b => ?_) (fun a b => ?_) (fun a b => ?_) _ _ fun p => ?_
  · rw [reducer_eq]; split_ifs
    · exact Or.inl rfl
    · exact Or.inr rfl
  · rw [reducer_eq]; split_ifs with h
    · exact Or.inr ⟨rfl, le_rfl⟩
    · rcases lt_trichotomy a.1 b.1 with h' | h' | h'
      · exact absurd (Or.inl h') h
      · exact Or.inr ⟨h'.symm, not_lt.mp fun q => h (Or.inr ⟨h', q⟩)⟩
      · exact Or.inl h'
  · rw [reducer_eq]; split_ifs with h
    · exact h.imp_right fun h => ⟨h.1, h.2.le⟩
    · exact Or.inr ⟨rfl, le_rfl⟩
  · unfold Host.argReduceFiber
    simp only [List.mem_map, List.mem_filter, List.mem_finRange, true_and, decide_eq_true_eq]
    constructor
    · rintro ⟨n, hn, rfl⟩
      obtain ⟨k, hk'⟩ := (hc _).mp hn
      exact ⟨k, by rw [hk', hk]⟩
    · rintro ⟨k, rfl⟩
      exact ⟨s.rowMajor (c k), by rw [Equiv.symm_apply_apply]; exact (hc _).mpr ⟨k, rfl⟩, by rw [Equiv.symm_apply_apply, hk]⟩

/-- The column that the reference's reduction returns is the row's first least entry's. -/
theorem argmin_at (d : FVec Ideal S16384x1024 .f32) (r : Fin 16384) :
    argmin d (ix1 r) = BitVec.ofNat 32 (first fun k => (d (ix2 r k) : EReal)).val := by
  rw [argmin_eq]
  refine reduce_first d _ _ _ _ _ (ix1 r) (fun k => ix2 r k) (fun i => ?_) ?_ ?_ fun k => ?_
  · constructor
    · intro h
      have hr : i 0 = r := congrFun ((drop_at i).symm.trans h) 0
      exact ⟨i 1, (eq_ix2 i).trans (congrArg (fun a : Fin 16384 => ix2 a (i 1)) hr)⟩
    · rintro ⟨k, rfl⟩
      exact drop_at (ix2 r k)
  · show Ideal.ofBits .f32 0x7F800000#32 = ⊤
    simp [Ideal.ofBits, Ideal.ieee]
  · rfl
  · pointwise

/-- The encodings: the fourth result. -/
theorem enc_at (r : Fin 16384) (k : Fin 1024) : enc x w (ix2 r k) = hot (dst fun l => d2 x w (ix2 r l)) k := by
  unfold enc hot
  rw [oneHot_at, argmin_at, show (fun l => dist x w (ix2 r l)) = dst (fun l => d2 x w (ix2 r l)) from funext fun l => dist_at x w r l]
  exact if_congr ⟨fun h => (word_inj h).symm, fun h => by rw [h]⟩ rfl rfl

/-- A picked codebook row. -/
theorem quant_at (r : Fin 16384) (j : Fin 64) : quant w e (ix2 r j) = ∑ k : Fin 1024, e (ix2 r k) * w (ix2 k j) := by
  pointwise [quant]

/-- The second result. -/
theorem qst_at (r : Fin 16384) (j : Fin 64) :
    qst x w e (ix2 r j) = x (ix2 r j) + ((∑ k : Fin 1024, e (ix2 r k) * w (ix2 k j)) - x (ix2 r j)) := by
  pointwise [qst, quant_at]

/-- The first result. -/
theorem loss_at (i : S_.Idx) : loss x w e i = Ideal.ofBits .f32 0x3E800000#32 * Ideal.div (∑ r : Fin 16384, ∑ j : Fin 64,
    ((∑ k : Fin 1024, e (ix2 r k) * w (ix2 k j)) - x (ix2 r j)) * ((∑ k : Fin 1024, e (ix2 r k) * w (ix2 k j)) - x (ix2 r j)))
    (Ideal.ofBits .f32 0x49800000#32) := by
  pointwise [loss, quant_at]

/-- A mean encoding. -/
theorem avg_at (k : Fin 1024) : avg e (ix1 k) = Ideal.div (∑ r : Fin 16384, e (ix2 r k)) (Ideal.ofBits .f32 0x46800000#32) := by
  pointwise [avg]

/-- The third result. -/
theorem perp_at (a : FVec Ideal S1024 .f32) (i : S_.Idx) : perp a i
    = Ideal.exp (-∑ k : Fin 1024, a (ix1 k) * Ideal.log (a (ix1 k) + Ideal.ofBits .f32 0x2EDBE6FF#32)) := by
  pointwise [perp]

end Cert.Ref

end
-- ==== Proof.Arr.lean ====
module

public import proofs.«01_k».proof.Proof.Run
public import proofs.«01_k».proof.Proof.Block
public import proofs.«01_k».proof.Proof.RefAt
public import Idealize.ShloMosaic.Lib.Pipeline.ValueKit

@[expose] public section

set_option maxRecDepth 16384

noncomputable section

namespace Cert.Arr

open Idealize.ShloMosaic Idealize.ShloMosaic.TcCoe Idealize.SL.Sem
open Idealize.ShloMosaic.Pipeline (Dat)
open Cert.KernelIdeal Cert.KernelIdeal.Gen Cert.KernelIdeal.VQ Cert.Block Cert.Spec

variable (m : (ℓ : Loc nD τ sig) → Buf (Elt Ideal) ℓ)

/-- The rows that the program is given. -/
abbrev rows (c : Dev nD) : FVec Ideal S16384x64 .f32 := m ((c : Thread nD τ).loc main_arg0)
/-- The codebook that the program is given. -/
abbrev book (c : Dev nD) : FVec Ideal S1024x64 .f32 := m ((c : Thread nD τ).loc main_arg1)

/-- Which block each window shows at a step. -/
theorem idx : ∀ t : Fin cfg0.N, win0_0.index t = ![t.val, 0] ∧ win0_1.index t = ![0, 0] ∧ win0_3.index t = ![t.val, 0]
    ∧ win0_5.index t = ![t.val, 0] :=
  (by decide +kernel : ∀ t : Fin grid0.N, _)

/-- Row `r` of step `t`'s block is row `512 t + r`. -/
theorem xB_at (c : Dev nD) (t : Fin cfg0.N) (r : Fin 512) (j : Fin 64) (R : Fin 16384) (hR : R.val = t.val * 512 + r.val) :
    (xB m c t : FVec Ideal S512x64 .f32) (ix2 r j) = rows m c (ix2 R j) := by
  blk_ext [xB, rows, iblk, V, idx t]

/-- Every step finds the whole codebook. -/
theorem wB_at (c : Dev nD) (t : Fin cfg0.N) (k : Fin 1024) (j : Fin 64) :
    (wB m c t : FVec Ideal S1024x64 .f32) (ix2 k j) = book m c (ix2 k j) := by
  blk_ext [wB, book, iblk, V, idx t]

/-- A row of a block and the same row among all rows have the same encoding. -/
theorem dist_eq (x : FVec Ideal S512x64 .f32) (w : FVec Ideal S1024x64 .f32) (X : FVec Ideal S16384x64 .f32) (W : FVec Ideal S1024x64 .f32)
    (r : Fin 512) (R : Fin 16384) (hx : ∀ j, x (ix2 r j) = X (ix2 R j)) (hw : ∀ k j, w (ix2 k j) = W (ix2 k j)) (k : Fin 1024) :
    code x w r k = Ref.enc X W (ix2 R k) := by
  rw [Ref.enc_at]
  unfold code
  have h : row (k0_pay13 (F := Ideal) x w) r = fun l => Ref.d2 X W (ix2 R l) := by
    funext l
    unfold row
    rw [Block.d2_at, Ref.d2_at]
    simp only [hx, hw]
  rw [h]

/-- A block's encodings are those of the rows that it holds. -/
theorem code_at (c : Dev nD) (t : Fin cfg0.N) (r : Fin 512) (k : Fin 1024) (R : Fin 16384) (hR : R.val = t.val * 512 + r.val) :
    code (xB m c t) (wB m c t) r k = Ref.enc (rows m c) (book m c) (ix2 R k) :=
  dist_eq _ _ _ _ r R (fun j => xB_at m c t r j R hR) (wB_at m c t) k

/-- The codebook row that a block's row picks is the one that the reference picks. -/
theorem pick_at (c : Dev nD) (t : Fin cfg0.N) (r : Fin 512) (j : Fin 64) (R : Fin 16384) (hR : R.val = t.val * 512 + r.val) :
    pick (xB m c t) (wB m c t) r j = Ref.quant (book m c) (Ref.enc (rows m c) (book m c)) (ix2 R j) := by
  rw [Ref.quant_at]
  unfold pick
  exact Finset.sum_congr rfl fun k _ => by rw [code_at m c t r k R hR, wB_at]

/-- An array assembled from the steps' encodings. -/
theorem enc_array (c : Dev nD) (G : FVec Ideal S16384x1024 .f32)
    (hG : ∀ (t : Fin cfg0.N) (r : Fin 512) (k : Fin 1024) (R : Fin 16384), R.val = t.val * 512 + r.val →
      encB (F := Ideal) (xB m c t) (wB m c t) (ix2 r k) = G (ix2 R k)) : (dats m 0 c).arrAt 5 (cfgs 0).N = G := by
  refine (dats m 0 c).arrAt_eq_of_covers 5 G (by decide +kernel) fun t _ y => ?_
  refine (cast_eq _ _).trans ?_
  rw [after5]
  generalize hz : (cfg0.win 5).xinj (cfg0.grid.coords t) y = z
  have h0 : ((z : S512x1024.Idx) 0).val = (y 0).val := by rw [← hz]
  have h1 : ((z : S512x1024.Idx) 1).val = (y 1).val := by rw [← hz]
  have e0 : ((((cfg0.win 5).blk t).view.emb y : S16384x1024.Idx) 0).val = t.val * 512 + (y 0).val := by blk_simp [idx t]
  have e1 : ((((cfg0.win 5).blk t).view.emb y : S16384x1024.Idx) 1).val = (y 1).val := by blk_simp [idx t]
  generalize (((cfg0.win 5).blk t).view.emb y : S16384x1024.Idx) = i at e0 e1 ⊢
  refine (congrArg _ (eq_ix2 z)).trans ((hG t (z 0) (z 1) (i 0) (e0.trans (by rw [h0]))).trans (congrArg G ?_))
  refine (congrArg (ix2 (i 0)) (Fin.ext ?_)).trans (eq_ix2 i).symm
  exact h1.trans e1.symm

/-- An array assembled from the steps' quantized rows. -/
theorem qst_array (c : Dev nD) (G : FVec Ideal S16384x64 .f32)
    (hG : ∀ (t : Fin cfg0.N) (r : Fin 512) (k : Fin 64) (R : Fin 16384), R.val = t.val * 512 + r.val →
      qstB (F := Ideal) (xB m c t) (wB m c t) (ix2 r k) = G (ix2 R k)) : (dats m 0 c).arrAt 3 (cfgs 0).N = G := by
  refine (dats m 0 c).arrAt_eq_of_covers 3 G (by decide +kernel) fun t _ y => ?_
  refine (cast_eq _ _).trans ?_
  rw [after3]
  generalize hz : (cfg0.win 3).xinj (cfg0.grid.coords t) y = z
  have h0 : ((z : S512x64.Idx) 0).val = (y 0).val := by rw [← hz]
  have h1 : ((z : S512x64.Idx) 1).val = (y 1).val := by rw [← hz]
  have e0 : ((((cfg0.win 3).blk t).view.emb y : S16384x64.Idx) 0).val = t.val * 512 + (y 0).val := by blk_simp [idx t]
  have e1 : ((((cfg0.win 3).blk t).view.emb y : S16384x64.Idx) 1).val = (y 1).val := by blk_simp [idx t]
  generalize (((cfg0.win 3).blk t).view.emb y : S16384x64.Idx) = i at e0 e1 ⊢
  refine (congrArg _ (eq_ix2 z)).trans ((hG t (z 0) (z 1) (i 0) (e0.trans (by rw [h0]))).trans (congrArg G ?_))
  refine (congrArg (ix2 (i 0)) (Fin.ext ?_)).trans (eq_ix2 i).symm
  exact h1.trans e1.symm

/-- The encodings after the run. -/
theorem enc_final (c : Dev nD) : (dats m 0 c).arrAt 5 (cfgs 0).N = Ref.enc (rows m c) (book m c) :=
  enc_array m c _ fun t r k R hR => (encB_at _ _ r k).trans (code_at m c t r k R hR)

/-- The quantized rows after the run. -/
theorem qst_final (c : Dev nD) : (dats m 0 c).arrAt 3 (cfgs 0).N = Ref.qst (rows m c) (book m c) (Ref.enc (rows m c) (book m c)) :=
  qst_array m c _ fun t r j R hR => by rw [qstB_at, Ref.qst_at, ← Ref.quant_at, xB_at m c t r j R hR, pick_at m c t r j R hR]

/-- The last step. -/
abbrev lastStep : Fin cfg0.N := ⟨31, by decide⟩

/-- The loss' array after the run. -/
theorem loss_final (c : Dev nD) :
    (dats m 0 c).arrAt 2 (cfgs 0).N = (fun _ => k0_pay6 (accAt m c 31 lastStep.isLt).1 : Vec Ideal S1x1 .f32) := by
  have key : ∀ v : Elt Ideal .f32, (∀ s : Fin cfg0.N, s.val % 32 = 31 → k0_pay6 (accAt m c s.val s.isLt).1 = v) →
      (dats m 0 c).arrAt 2 (cfgs 0).N = (fun _ => v : Vec Ideal S1x1 .f32) := by
    intro v hv
    refine (dats m 0 c).arrAt_eq_of_covers 2 _ (by decide +kernel) fun s hs y => ?_
    blk_simp
    rw [after2]
    exact hv s ((flush0_2 s).mp hs)
  refine key _ fun s hs => ?_
  obtain ⟨s, hs'⟩ := s
  have h31 : s = 31 := by have := N_0; simp only at hs; have : s < 32 := lt_of_lt_of_eq hs' N_0; omega
  subst h31
  rfl

/-- The perplexity's array after the run. -/
theorem perp_final (c : Dev nD) :
    (dats m 0 c).arrAt 4 (cfgs 0).N = (fun _ => k0_pay7 (accAt m c 31 lastStep.isLt).2 : Vec Ideal S1x1 .f32) := by
  have key : ∀ v : Elt Ideal .f32, (∀ s : Fin cfg0.N, s.val % 32 = 31 → k0_pay7 (accAt m c s.val s.isLt).2 = v) →
      (dats m 0 c).arrAt 4 (cfgs 0).N = (fun _ => v : Vec Ideal S1x1 .f32) := by
    intro v hv
    refine (dats m 0 c).arrAt_eq_of_covers 4 _ (by decide +kernel) fun s hs y => ?_
    blk_simp
    rw [after4]
    exact hv s ((flush0_4 s).mp hs)
  refine key _ fun s hs => ?_
  obtain ⟨s, hs'⟩ := s
  have h31 : s = 31 := by have := N_0; simp only at hs; have : s < 32 := lt_of_lt_of_eq hs' N_0; omega
  subst h31
  rfl

end Cert.Arr

end
-- ==== Proof.Value.lean ====
module

public import proofs.«01_k».proof.Proof.Arr
public import proofs.«01_k».proof.Pre_finite_inputs
public import proofs.«01_k».proof.Defs

@[expose] public section

set_option maxRecDepth 16384

noncomputable section

namespace Cert.Arr

open Idealize.ShloMosaic Idealize.ShloMosaic.TcCoe Idealize.SL.Sem
open Idealize.ShloMosaic.Pipeline (Dat)
open Cert.KernelIdeal Cert.KernelIdeal.Gen Cert.KernelIdeal.VQ Cert.Block Cert.Spec

variable (m : (ℓ : Loc nD τ sig) → Buf (Elt Ideal) ℓ)

/-! ## Totals over the steps -/

/-- What step `t`'s 512 rows contribute to a total over all rows. -/
def part (f : Fin 16384 → EReal) (t : ℕ) : EReal :=
  if h : t < 32 then ∑ r : Fin 512, f ⟨t * 512 + r.val, by omega⟩ else 0

/-- A step's contribution, within the grid. -/
theorem part_of (f : Fin 16384 → EReal) (t : ℕ) (h : t < 32) : part f t = ∑ r : Fin 512, f ⟨t * 512 + r.val, by omega⟩ := dif_pos h

/-- The steps' contributions make the total. -/
theorem total (f : Fin 16384 → EReal) : ∑ t ∈ Finset.range 32, part f t = ∑ R : Fin 16384, f R := by
  rw [Finset.sum_range, Fin.sum_univ_tiles 32 512 rfl f]
  exact Finset.sum_congr rfl fun t _ => part_of f t.val t.isLt

/-- A row's squared distance from the codebook row that it picks. -/
def gap (c : Dev nD) (R : Fin 16384) : EReal :=
  ∑ j : Fin 64, (Ref.quant (book m c) (Ref.enc (rows m c) (book m c)) (ix2 R j) - rows m c (ix2 R j))
    * (Ref.quant (book m c) (Ref.enc (rows m c) (book m c)) (ix2 R j) - rows m c (ix2 R j))

/-- A block's loss is what its rows contribute to the total. -/
theorem blockLoss_part (c : Dev nD) (t : Fin cfg0.N) : blockLoss (xB m c t) (wB m c t) = part (gap m c) t.val := by
  have ht : t.val < 32 := lt_of_lt_of_eq t.isLt N_0
  rw [part_of _ _ ht]
  unfold blockLoss gap
  refine Finset.sum_congr rfl fun r _ => Finset.sum_congr rfl fun j _ => ?_
  rw [pick_at m c t r j ⟨t.val * 512 + r.val, by omega⟩ rfl, xB_at m c t r j ⟨t.val * 512 + r.val, by omega⟩ rfl]

/-- A block's counts are what its rows contribute to the total. -/
theorem count_part (c : Dev nD) (t : Fin cfg0.N) (k : Fin 1024) :
    ∑ r, code (xB m c t) (wB m c t) r k = part (fun R => Ref.enc (rows m c) (book m c) (ix2 R k)) t.val := by
  have ht : t.val < 32 := lt_of_lt_of_eq t.isLt N_0
  rw [part_of _ _ ht]
  exact Finset.sum_congr rfl fun r _ => code_at m c t r k ⟨t.val * 512 + r.val, by omega⟩ rfl

/-- The running loss after the first step. -/
theorem loss_zero {F : FTy → Type} [FloatOps F] (m : (ℓ : Loc nD τ sig) → Buf (Elt F) ℓ) (c : Dev nD) (h : 0 < cfg0.N) :
    (accAt m c 0 h).1 = lossB (xB m c ⟨0, h⟩) (wB m c ⟨0, h⟩) (FloatOps.ofBits .f32 0x00000000#32) := rfl

/-- The running loss after a later step. -/
theorem loss_succ {F : FTy → Type} [FloatOps F] (m : (ℓ : Loc nD τ sig) → Buf (Elt F) ℓ) (c : Dev nD) (n : ℕ) (h : n + 1 < cfg0.N) :
    (accAt m c (n + 1) h).1 = lossB (xB m c ⟨n + 1, h⟩) (wB m c ⟨n + 1, h⟩) (accAt m c n (Nat.lt_of_succ_lt h)).1 := rfl

/-- The running counts after the first step. -/
theorem count_zero {F : FTy → Type} [FloatOps F] (m : (ℓ : Loc nD τ sig) → Buf (Elt F) ℓ) (c : Dev nD) (h : 0 < cfg0.N) (i : S1x1024.Idx) :
    (accAt m c 0 h).2 i = cntB (xB m c ⟨0, h⟩) (wB m c ⟨0, h⟩) k0_pay2 i := rfl

/-- The running counts after a later step. -/
theorem count_succ {F : FTy → Type} [FloatOps F] (m : (ℓ : Loc nD τ sig) → Buf (Elt F) ℓ) (c : Dev nD) (n : ℕ) (h : n + 1 < cfg0.N) (i : S1x1024.Idx) :
    (accAt m c (n + 1) h).2 i = cntB (xB m c ⟨n + 1, h⟩) (wB m c ⟨n + 1, h⟩) (accAt m c n (Nat.lt_of_succ_lt h)).2 i := rfl

/-- Every entry of a step's block is an entry of the rows. -/
theorem xB_real (c : Dev nD) (hx : ∀ i, IsReal (rows m c i)) (t : Fin cfg0.N) (i : S512x64.Idx) :
    IsReal ((xB m c t : FVec Ideal S512x64 .f32) i) := by
  have ht : t.val < 32 := lt_of_lt_of_eq t.isLt N_0
  have hi : (i 0).val < 512 := (i 0).isLt
  have h := xB_at m c t (i 0) (i 1) ⟨t.val * 512 + (i 0).val, by omega⟩ rfl
  rw [eq_ix2 i]
  exact h ▸ hx _

/-- Every entry of the codebook that a step finds is an entry of the codebook. -/
theorem wB_real (c : Dev nD) (hw : ∀ i, IsReal (book m c i)) (t : Fin cfg0.N) (i : S1024x64.Idx) :
    IsReal ((wB m c t : FVec Ideal S1024x64 .f32) i) := by
  have h := wB_at m c t (i 0) (i 1)
  rw [eq_ix2 i]
  exact h ▸ hw _

/-- A step adds its rows' squared distances. -/
theorem loss_step (c : Dev nD) (hx : ∀ i, IsReal (rows m c i)) (hw : ∀ i, IsReal (book m c i)) (t : Fin cfg0.N) (l : EReal) :
    lossB (F := Ideal) (xB m c t) (wB m c t) l = l + part (gap m c) t.val := by
  rw [lossB_eq _ _ (xB_real m c hx t) (wB_real m c hw t), blockLoss_part]

/-- A step adds its rows' encodings. -/
theorem count_step (c : Dev nD) (t : Fin cfg0.N) (a : FVec Ideal S1x1024 .f32) (k : Fin 1024) :
    cntB (F := Ideal) (xB m c t) (wB m c t) a (ix2 0 k) = a (ix2 0 k) + part (fun R => Ref.enc (rows m c) (book m c) (ix2 R k)) t.val := by
  rw [cntB_at, count_part]

/-- The running loss after step `n`. -/
theorem acc_loss (c : Dev nD) (hx : ∀ i, IsReal (rows m c i)) (hw : ∀ i, IsReal (book m c i)) :
    ∀ (n : ℕ) (hn : n < cfg0.N), ((accAt m c n hn).1 : EReal) = ∑ t ∈ Finset.range (n + 1), part (gap m c) t := by
  intro n
  induction n with
  | zero =>
    intro hn
    have h := loss_step m c hx hw ⟨0, hn⟩ (FloatOps.ofBits .f32 0x00000000#32 : Ideal .f32)
    refine (loss_zero m c hn).trans (h.trans ?_)
    rw [Finset.sum_range_one, show (FloatOps.ofBits .f32 0x00000000#32 : Ideal .f32) = (0 : EReal) from Ideal.ofBits_zero .f32, zero_add]
  | succ n ih =>
    intro hn
    have h := loss_step m c hx hw ⟨n + 1, hn⟩ (accAt m c n (Nat.lt_of_succ_lt hn)).1
    refine (loss_succ m c n hn).trans (h.trans ?_)
    rw [Finset.sum_range_succ, ← ih (Nat.lt_of_succ_lt hn)]

/-- The running counts after step `n`. -/
theorem acc_count (c : Dev nD) (k : Fin 1024) : ∀ (n : ℕ) (hn : n < cfg0.N), ((accAt m c n hn).2 (ix2 0 k) : EReal)
    = ∑ t ∈ Finset.range (n + 1), part (fun R => Ref.enc (rows m c) (book m c) (ix2 R k)) t := by
  intro n
  induction n with
  | zero =>
    intro hn
    have h := count_step m c ⟨0, hn⟩ (k0_pay2 (F := Ideal)) k
    refine (count_zero m c hn (ix2 0 k)).trans (h.trans ?_)
    rw [Finset.sum_range_one, show (k0_pay2 (F := Ideal) (ix2 0 k) : EReal) = 0 by pointwise [k0_pay2], zero_add]
  | succ n ih =>
    intro hn
    have h := count_step m c ⟨n + 1, hn⟩ (accAt m c n (Nat.lt_of_succ_lt hn)).2 k
    refine (count_succ m c n hn (ix2 0 k)).trans (h.trans ?_)
    rw [Finset.sum_range_succ, ← ih (Nat.lt_of_succ_lt hn)]

/-! ## The scalar results -/

/-- The last step's loss from the running sum. -/
theorem loss_pay (l : EReal) : (k0_pay6 (F := Ideal) l : EReal) = Ideal.ofBits .f32 0x3E800000#32 * Ideal.div l (Ideal.ofBits .f32 0x49800000#32) := by
  pointwise [k0_pay6]

/-- The last step's perplexity from the running counts. -/
theorem perp_pay (a : FVec Ideal S1x1024 .f32) : (k0_pay7 (F := Ideal) a : EReal)
    = Ideal.exp (-∑ k : Fin 1024, Ideal.div (a (ix2 0 k)) (Ideal.ofBits .f32 0x46800000#32)
      * Ideal.log (Ideal.div (a (ix2 0 k)) (Ideal.ofBits .f32 0x46800000#32) + Ideal.ofBits .f32 0x2EDBE6FF#32)) := by
  pointwise [k0_pay7]
  rw [Fin.sum_univ_one, zero_sub]
  rfl

/-- The last step's loss is the reference's first result. -/
theorem loss_value (c : Dev nD) (hx : ∀ i, IsReal (rows m c i)) (hw : ∀ i, IsReal (book m c i)) (i : Cert.ReferenceIdeal.S_.Idx) :
    (k0_pay6 (accAt m c 31 lastStep.isLt).1 : EReal) = Ref.loss (rows m c) (book m c) (Ref.enc (rows m c) (book m c)) i := by
  refine (loss_pay _).trans ?_
  rw [acc_loss m c hx hw, total, Ref.loss_at]
  unfold gap
  simp only [Ref.quant_at]

/-- The last step's perplexity is the reference's third result. -/
theorem perp_value (c : Dev nD) (i : Cert.ReferenceIdeal.S_.Idx) :
    (k0_pay7 (accAt m c 31 lastStep.isLt).2 : EReal) = Ref.perp (Ref.avg (Ref.enc (rows m c) (book m c))) i := by
  refine (perp_pay _).trans ?_
  rw [Ref.perp_at]
  simp only [acc_count, Nat.reduceAdd, total, Ref.avg_at]

/-! ## The run -/

/-- The first result is the last step's loss. -/
theorem tail_loss (c : Dev nD) (i : S_.Idx) : Pipeline.afterTail₀ cfgs (dats m) 0 (V0 m) [hostOps1] c main_v0_0 i
    = k0_pay6 (accAt m c 31 lastStep.isLt).1 := by
  unfold Pipeline.afterTail₀
  simp only [hostOps1, List.flatten_cons, List.flatten_nil, List.append_nil]
  after_results
  have h := Pipeline.withArrays_arr (cfgs 0).spec launch0.win.arr_inj c (V0 m c) (fun w => (dats m 0 c).arrAt w (cfgs 0).N) 2
  have h' := h.trans (loss_final m c)
  have key : ∀ A : Vec Ideal S1x1 .f32, A = (fun _ => k0_pay6 (accAt m c 31 lastStep.isLt).1) → (shapeCast S_ A shapeCasts_S1x1_S_ : Vec Ideal S_ .f32) i = k0_pay6 (accAt m c 31 lastStep.isLt).1 := by
    intro A hA; rw [hA]; rfl
  exact key _ h'

/-- The third result is the last step's perplexity. -/
theorem tail_perp (c : Dev nD) (i : S_.Idx) : Pipeline.afterTail₀ cfgs (dats m) 0 (V0 m) [hostOps1] c main_v0_2 i
    = k0_pay7 (accAt m c 31 lastStep.isLt).2 := by
  unfold Pipeline.afterTail₀
  simp only [hostOps1, List.flatten_cons, List.flatten_nil, List.append_nil]
  after_results
  have h := Pipeline.withArrays_arr (cfgs 0).spec launch0.win.arr_inj c (V0 m c) (fun w => (dats m 0 c).arrAt w (cfgs 0).N) 4
  have h' := h.trans (perp_final m c)
  have key : ∀ A : Vec Ideal S1x1 .f32, A = (fun _ => k0_pay7 (accAt m c 31 lastStep.isLt).2) → (shapeCast S_ A shapeCasts_S1x1_S_ : Vec Ideal S_ .f32) i = k0_pay7 (accAt m c 31 lastStep.isLt).2 := by
    intro A hA; rw [hA]; rfl
  exact key _ h'

/-! ## Finite arguments -/

/-- The precondition's shapes fit. -/
instance : Cert.Pre_finite_inputs.Facts := ⟨by decide, by decide⟩

/-- A value whose absolute value is below infinity is a real. -/
theorem real_of_lt {v : EReal} (h : max v (-v) < ⊤) : IsReal v := by
  induction v with
  | bot => simp at h
  | top => simp at h
  | coe a => exact ⟨a, rfl⟩

/-- A comparison bit that is set says that the value is below infinity. -/
theorem bit_lt {v : EReal} (h : (FloatOps.cmpf (F := Ideal) (φ := .f32) .olt v (Ideal.ofBits .f32 0x7F800000#32) : BitVec 1) = 1#1) : v < ⊤ := by
  rw [ofBits_top] at h
  by_contra hv
  have h' : BitVec.ofBool (decide (v < (⊤ : EReal))) = 1#1 := h
  rw [decide_eq_false hv] at h'
  exact absurd h' (by decide)

/-- The precondition makes every entry of both arguments a real. -/
theorem finite (hpre : Pre_KernelIdeal m) (c : Dev nD) : (∀ i, IsReal (rows m c i)) ∧ ∀ i, IsReal (book m c i) := by
  constructor
  · intro i
    have h := congrFun (hpre c).1 i
    refine real_of_lt (bit_lt ?_)
    exact h
  · intro i
    have h := congrFun (hpre c).2 i
    refine real_of_lt (bit_lt ?_)
    exact h

/-- The kernel's run: with finite arguments its four results are the reference's. -/
theorem run (g : Dev nD → PrngReg) (hpre : Pre_KernelIdeal m) :
    θ_run (defs (F := Ideal)) (onTc (τ := τ) (main (F := Ideal))) ⟨m, fun _ => 0, g⟩ (fun r => ∀ c : Dev nD,
      r.2.mem ((c.tc : Thread nD τ).loc main_v0_0) = Ref.loss (rows m c) (book m c) (Ref.enc (rows m c) (book m c))
      ∧ r.2.mem ((c.tc : Thread nD τ).loc main_v0_1) = Ref.qst (rows m c) (book m c) (Ref.enc (rows m c) (book m c))
      ∧ r.2.mem ((c.tc : Thread nD τ).loc main_v0_2) = Ref.perp (Ref.avg (Ref.enc (rows m c) (book m c)))
      ∧ r.2.mem ((c.tc : Thread nD τ).loc main_v0_3) = Ref.enc (rows m c) (book m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m g) (unchanged m g))
  obtain ⟨hx, hw⟩ := finite m hpre c
  refine ⟨((h.1 c).2 main_v0_0 (by decide)).trans (funext fun i => (tail_loss m c i).trans (loss_value m c hx hw i)),
    ((h.1 c).1 3).trans (qst_final m c),
    ((h.1 c).2 main_v0_2 (by decide)).trans (funext fun i => (tail_perp m c i).trans (perp_value m c i)),
    ((h.1 c).1 5).trans (enc_final m c), (h.2 c).1, (h.2 c).2⟩

/-- The value claim: the kernel and the reference end with the same four results. -/
theorem algebraic : Cert.algebraic_KernelIdeal_ReferenceIdeal := by
  intro m g m' g' hpre hagree
  refine ⟨_, _, _, _, run m g hpre, ?_⟩
  refine (θ_run Cert.ReferenceIdeal.defs _ _).mono (fun r h c => ?_) (Cert.Ref.run m' g')
  obtain ⟨h0, h1, h2, h3, h4, h5⟩ := h c
  rw [(hagree c).1, (hagree c).2] at h0 h1 h2 h3
  exact ⟨h0, h1, h2, h3, h4, h5⟩

end Cert.Arr

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Ref
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨inferInstance, inferInstance, inferInstance, inferInstance,
    Cert.Frames.kernel,
    fun m g _ => Cert.KernelIdeal.VQ.frame_all (F := Ideal) m g,
    fun m g _ => Cert.KernelIdeal.VQ.frame_all (F := Ideal) m g,
    Cert.Ref.frame,
    fun m g _ => Cert.Ref.frame m g trivial,
    trivial,
    Cert.Arr.algebraic⟩

end Cert.Proof

end
